-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "both" .f32 0x3F666CF4#32 ((123708798743 / 137438953472 : ℝ) : EReal)

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_untied : Cert.Pre_untied.Facts),
    quiescent_Kernel (hKernel := hKernel) (hPre_in_range := hPre_in_range)
    ∧ quiescent_KernelIdeal (hKernelIdeal := hKernelIdeal) (hPre_in_range := hPre_in_range)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_in_range.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_untied.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩

class Facts : Prop where
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1000_S1x1000_1 : S1000.BroadcastsInDim S1x1000 (![1] : Fin 1 → Fin S1x1000.rank)
  bcast_S_S16384 : S_.BroadcastsInDim S16384 (![] : Fin 0 → Fin S16384.rank)
  reducesTo_S16384_S_d0 : S16384.ReducesTo [0] S_
  bcast_S_S16384x1000 : S_.BroadcastsInDim S16384x1000 (![] : Fin 0 → Fin S16384x1000.rank)
  reducesTo_S16384x1000_S_d0_1 : S16384x1000.ReducesTo [0, 1] S_
  bcast_S1x1000_S16384x1000_0_1 : S1x1000.BroadcastsInDim S16384x1000 (![0, 1] : Fin 2 → Fin S16384x1000.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S16384x1000 .f32) : IVec S16384 32 :=
  let v0 : IVec S16384x1000 32 := iotaInDim S16384x1000 32 1
  let cst : FVec F S_ .f32 := constant S_ .f32 0xFF800000#32
  let c : IVec S_ 32 := constantI S_ 32 0#32
  let v1_0 : FVec F S16384 .f32 := (fun x y u v j => (Host.argReduce reducer_argmax_f32_i32 x y u v reducesTo_S16384x1000_S16384_d1 h_S_ j).1) arg0 v0 cst c
  let v1_1 : IVec S16384 32 := (fun x y u v j => (Host.argReduce reducer_argmax_f32_i32 x y u v reducesTo_S16384x1000_S16384_d1 h_S_ j).2) arg0 v0 cst c
  v1_1

def fn_part1 {F : FTy → Type} [FloatOps F] (main_arg1 : IVec S16384 32) (main_v1 : IVec S16384x1 32) (main_v5 : IVec S16384x1000 1) (main_v7 : IVec S1x1000 32) (main_v13 : IVec S_ 1) (main_v17 : IVec S_ 1) : IVec S_ 1 :=
  let main_v18 : IVec S_ 1 := andi main_v13 main_v17
  let main_v19 : IVec S16384x1000 32 := broadcastInDim S16384x1000 ![0, 1] bcast_S1x1000_S16384x1000_0_1 main_v7
  let main_v20 : IVec S16384x1000 32 := broadcastInDim S16384x1000 ![0, 1] bcast_S16384x1_S16384x1000_0_1 main_v1
  let main_v21 : IVec S16384x1000 1 := cmpi .eq main_v19 main_v20
  let main_v22 : IVec S16384x1000 1 := ori main_v5 main_v21
  let main_v23 : IVec S16384x1 32 := broadcastInDim S16384x1 ![0] bcast_S16384_S16384x1_0 main_arg1
  let main_v24 : IVec S16384x1000 32 := broadcastInDim S16384x1000 ![0, 1] bcast_S1x1000_S16384x1000_0_1 main_v7
  let main_v25 : IVec S16384x1000 32 := broadcastInDim S16384x1000 ![0, 1] bcast_S16384x1_S16384x1000_0_1 main_v23
  let main_v26 : IVec S16384x1000 1 := cmpi .ne main_v24 main_v25
  let main_v27 : IVec S16384x1000 1 := ori main_v22 main_v26
  let main_c_4 : IVec S_ 1 := constantI S_ 1 1#1
  let main_v28 : IVec S_ 1 := (fun x v => Host.reduce IntOp.andi x v reducesTo_S16384x1000_S_d0_1 h_S_) main_v27 main_c_4
  let main_v29 : IVec S_ 1 := andi main_v18 main_v28
  main_v29

def fn {F : FTy → Type} [FloatOps F] (main_arg0 : FVec F S16384x1000 .f32) (main_arg1 : IVec S16384 32) : IVec S_ 1 :=
  let main_v0 : IVec S16384 32 := fn_argmax (F := F) main_arg0
  let main_v1 : IVec S16384x1 32 := broadcastInDim S16384x1 ![0] bcast_S16384_S16384x1_0 main_v0
  let main_cst : FVec F S_ .f32 := constant S_ .f32 0xFF800000#32
  let main_v2 : FVec F S16384 .f32 := (fun x v => Host.reduce FloatOps.maximumf x v reducesTo_S16384x1000_S16384_d1 h_S_) main_arg0 main_cst
  let main_v3 : FVec F S16384x1 .f32 := broadcastInDim S16384x1 ![0] bcast_S16384_S16384x1_0 main_v2
  let main_v4 : FVec F S16384x1000 .f32 := broadcastInDim S16384x1000 ![0, 1] bcast_S16384x1_S16384x1000_0_1 main_v3
  let main_v5 : IVec S16384x1000 1 := cmpf .olt main_arg0 main_v4
  let main_v6 : IVec S1000 32 := iotaInDim S1000 32 0
  let main_v7 : IVec S1x1000 32 := broadcastInDim S1x1000 ![1] bcast_S1000_S1x1000_1 main_v6
  let main_c : IVec S_ 32 := constantI S_ 32 0#32
  let main_v8 : IVec S16384 32 := broadcastInDim S16384 ![] bcast_S_S16384 main_c
  let main_v9 : IVec S16384 1 := cmpi .sge main_arg1 main_v8
  let main_c_0 : IVec S_ 32 := constantI S_ 32 1000#32
  let main_v10 : IVec S16384 32 := broadcastInDim S16384 ![] bcast_S_S16384 main_c_0
  let main_v11 : IVec S16384 1 := cmpi .slt main_arg1 main_v10
  let main_v12 : IVec S16384 1 := andi main_v9 main_v11
  let main_c_1 : IVec S_ 1 := constantI S_ 1 1#1
  let main_v13 : IVec S_ 1 := (fun x v => Host.reduce IntOp.andi x v reducesTo_S16384_S_d0 h_S_) main_v12 main_c_1
  let main_v14 : FVec F S16384x1000 .f32 := Host.absf main_arg0
  let main_cst_2 : FVec F S_ .f32 := constant S_ .f32 0x7F800000#32
  let main_v15 : FVec F S16384x1000 .f32 := broadcastInDim S16384x1000 ![] bcast_S_S16384x1000 main_cst_2
  let main_v16 : IVec S16384x1000 1 := cmpf .olt main_v14 main_v15
  let main_c_3 : IVec S_ 1 := constantI S_ 1 1#1
  let main_v17 : IVec S_ 1 := (fun x v => Host.reduce IntOp.andi x v reducesTo_S16384x1000_S_d0_1 h_S_) main_v16 main_c_3
  fn_part1 (F := F) main_arg1 main_v1 main_v5 main_v7 main_v13 main_v17
-- ==== Kernel.lean ====
abbrev S16384x1000 : Shape := ⟨2, ![16384, 1000]⟩
abbrev S16384 : Shape := ⟨1, ![16384]⟩
abbrev S32x1024 : Shape := ⟨2, ![32, 1024]⟩
abbrev S512 : Shape := ⟨1, ![512]⟩
abbrev S1024 : Shape := ⟨1, ![1024]⟩
abbrev S_ : Shape := ⟨0, ![]⟩
abbrev S16 : Shape := ⟨1, ![16]⟩
abbrev S1x1024 : Shape := ⟨2, ![1, 1024]⟩
abbrev S16384x1 : Shape := ⟨2, ![16384, 1]⟩
abbrev S2x1024 : Shape := ⟨2, ![2, 1024]⟩
abbrev S2048x1000 : Shape := ⟨2, ![2048, 1000]⟩
abbrev S2048x1 : Shape := ⟨2, ![2048, 1]⟩
abbrev S2048 : Shape := ⟨1, ![2048]⟩
abbrev S1000x1 : Shape := ⟨2, ![1000, 1]⟩
abbrev S1000 : Shape := ⟨1, ![1000]⟩
abbrev S1x1000 : Shape := ⟨2, ![1, 1000]⟩
abbrev S1x2048 : Shape := ⟨2, ![1, 2048]⟩
abbrev S1 : Shape := ⟨1, ![1]⟩
abbrev S1x1 : Shape := ⟨2, ![1, 1]⟩

abbrev nBuf : Table → Nat
  | .hbm => 7
  | .local .tc .vmem => 8
  | .local .scVector .vmem => 2
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S32x1024, .f32⟩
  | .hbm, ⟨3, _⟩ => ⟨S16384x1, .i32⟩
  | .hbm, ⟨4, _⟩ => ⟨S2x1024, .f32⟩
  | .hbm, ⟨5, _⟩ => ⟨S1x1, .f32⟩
  | .hbm, ⟨6, _⟩ => ⟨S_, .f32⟩
  | .local .tc .vmem, ⟨0, _⟩ => ⟨S2048x1000, .f32⟩
  | .local .tc .vmem, ⟨1, _⟩ => ⟨S2048x1000, .f32⟩
  | .local .tc .vmem, ⟨2, _⟩ => ⟨S2048x1, .i32⟩
  | .local .tc .vmem, ⟨3, _⟩ => ⟨S2048x1, .i32⟩
  | .local .tc .vmem, ⟨4, _⟩ => ⟨S2x1024, .f32⟩
  | .local .tc .vmem, ⟨5, _⟩ => ⟨S32x1024, .f32⟩
  | .local .tc .vmem, ⟨6, _⟩ => ⟨S2x1024, .f32⟩
  | .local .tc .vmem, ⟨7, _⟩ => ⟨S1x1, .f32⟩
  | .local .scVector .vmem, ⟨0, _⟩ => ⟨S512, .i32⟩
  | .local .scVector .vmem, ⟨1, _⟩ => ⟨S1024, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v69 : IVec S16 32) : Prop :=
  (∀ a x, ((![v69] : Fin 1 → IVec S16 32) a x).toNat < S1024.size a)
theorem k0_idx1_inb : ∀ (v69 : IVec S16 32) (k0_hw1 : k0_chk1 v69), ∀ a x, ((![v69] : Fin 1 → IVec S16 32) a x).toNat < S1024.size a := fun v69 k0_hw1 => k0_hw1

def k0_chk2 (v70 : IVec S16 32) : Prop :=
  (∀ a x, ((![v70] : Fin 1 → IVec S16 32) a x).toNat < S1024.size a)
theorem k0_idx2_inb : ∀ (v70 : IVec S16 32) (k0_hw2 : k0_chk2 v70), ∀ a x, ((![v70] : Fin 1 → IVec S16 32) a x).toNat < S1024.size a := fun v70 k0_hw2 => k0_hw2

def k0_chk3 (v71 : IVec S16 32) : Prop :=
  (∀ a x, ((![v71] : Fin 1 → IVec S16 32) a x).toNat < S1024.size a)
theorem k0_idx3_inb : ∀ (v71 : IVec S16 32) (k0_hw3 : k0_chk3 v71), ∀ a x, ((![v71] : Fin 1 → IVec S16 32) a x).toNat < S1024.size a := fun v71 k0_hw3 => k0_hw3

def k0_chk4 (v72 : IVec S16 32) : Prop :=
  (∀ a x, ((![v72] : Fin 1 → IVec S16 32) a x).toNat < S1024.size a)
theorem k0_idx4_inb : ∀ (v72 : IVec S16 32) (k0_hw4 : k0_chk4 v72), ∀ a x, ((![v72] : Fin 1 → IVec S16 32) a x).toNat < S1024.size a := fun v72 k0_hw4 => k0_hw4

def k0_chk5 (v73 : IVec S16 32) : Prop :=
  (∀ a x, ((![v73] : Fin 1 → IVec S16 32) a x).toNat < S1024.size a)
theorem k0_idx5_inb : ∀ (v73 : IVec S16 32) (k0_hw5 : k0_chk5 v73), ∀ a x, ((![v73] : Fin 1 → IVec S16 32) a x).toNat < S1024.size a := fun v73 k0_hw5 => k0_hw5

def k0_chk6 (v74 : IVec S16 32) : Prop :=
  (∀ a x, ((![v74] : Fin 1 → IVec S16 32) a x).toNat < S1024.size a)
theorem k0_idx6_inb : ∀ (v74 : IVec S16 32) (k0_hw6 : k0_chk6 v74), ∀ a x, ((![v74] : Fin 1 → IVec S16 32) a x).toNat < S1024.size a := fun v74 k0_hw6 => k0_hw6

def k0_chk7 (v75 : IVec S16 32) : Prop :=
  (∀ a x, ((![v75] : Fin 1 → IVec S16 32) a x).toNat < S1024.size a)
theorem k0_idx7_inb : ∀ (v75 : IVec S16 32) (k0_hw7 : k0_chk7 v75), ∀ a x, ((![v75] : Fin 1 → IVec S16 32) a x).toNat < S1024.size a := fun v75 k0_hw7 => k0_hw7

def k0_chk8 (v76 : IVec S16 32) : Prop :=
  (∀ a x, ((![v76] : Fin 1 → IVec S16 32) a x).toNat < S1024.size a)
theorem k0_idx8_inb : ∀ (v76 : IVec S16 32) (k0_hw8 : k0_chk8 v76), ∀ a x, ((![v76] : Fin 1 → IVec S16 32) a x).toNat < S1024.size a := fun v76 k0_hw8 => k0_hw8

def k0_chk9 (v77 : IVec S16 32) : Prop :=
  (∀ a x, ((![v77] : Fin 1 → IVec S16 32) a x).toNat < S1024.size a)
theorem k0_idx9_inb : ∀ (v77 : IVec S16 32) (k0_hw9 : k0_chk9 v77), ∀ a x, ((![v77] : Fin 1 → IVec S16 32) a x).toNat < S1024.size a := fun v77 k0_hw9 => k0_hw9

def k0_chk10 (v78 : IVec S16 32) : Prop :=
  (∀ a x, ((![v78] : Fin 1 → IVec S16 32) a x).toNat < S1024.size a)
theorem k0_idx10_inb : ∀ (v78 : IVec S16 32) (k0_hw10 : k0_chk10 v78), ∀ a x, ((![v78] : Fin 1 → IVec S16 32) a x).toNat < S1024.size a := fun v78 k0_hw10 => k0_hw10

def k0_chk11 (v79 : IVec S16 32) : Prop :=
  (∀ a x, ((![v79] : Fin 1 → IVec S16 32) a x).toNat < S1024.size a)
theorem k0_idx11_inb : ∀ (v79 : IVec S16 32) (k0_hw11 : k0_chk11 v79), ∀ a x, ((![v79] : Fin 1 → IVec S16 32) a x).toNat < S1024.size a := fun v79 k0_hw11 => k0_hw11

def k0_chk12 (v80 : IVec S16 32) : Prop :=
  (∀ a x, ((![v80] : Fin 1 → IVec S16 32) a x).toNat < S1024.size a)
theorem k0_idx12_inb : ∀ (v80 : IVec S16 32) (k0_hw12 : k0_chk12 v80), ∀ a x, ((![v80] : Fin 1 → IVec S16 32) a x).toNat < S1024.size a := fun v80 k0_hw12 => k0_hw12

def k0_chk13 (v81 : IVec S16 32) : Prop :=
  (∀ a x, ((![v81] : Fin 1 → IVec S16 32) a x).toNat < S1024.size a)
theorem k0_idx13_inb : ∀ (v81 : IVec S16 32) (k0_hw13 : k0_chk13 v81), ∀ a x, ((![v81] : Fin 1 → IVec S16 32) a x).toNat < S1024.size a := fun v81 k0_hw13 => k0_hw13

def k0_chk14 (v82 : IVec S16 32) : Prop :=
  (∀ a x, ((![v82] : Fin 1 → IVec S16 32) a x).toNat < S1024.size a)
theorem k0_idx14_inb : ∀ (v82 : IVec S16 32) (k0_hw14 : k0_chk14 v82), ∀ a x, ((![v82] : Fin 1 → IVec S16 32) a x).toNat < S1024.size a := fun v82 k0_hw14 => k0_hw14

def k0_chk15 (v83 : IVec S16 32) : Prop :=
  (∀ a x, ((![v83] : Fin 1 → IVec S16 32) a x).toNat < S1024.size a)
theorem k0_idx15_inb : ∀ (v83 : IVec S16 32) (k0_hw15 : k0_chk15 v83), ∀ a x, ((![v83] : Fin 1 → IVec S16 32) a x).toNat < S1024.size a := fun v83 k0_hw15 => k0_hw15

def k0_chk16 (v84 : IVec S16 32) : Prop :=
  (∀ a x, ((![v84] : Fin 1 → IVec S16 32) a x).toNat < S1024.size a)
theorem k0_idx16_inb : ∀ (v84 : IVec S16 32) (k0_hw16 : k0_chk16 v84), ∀ a x, ((![v84] : Fin 1 → IVec S16 32) a x).toNat < S1024.size a := fun v84 k0_hw16 => k0_hw16

def k0_chk17 (v85 : IVec S16 32) : Prop :=
  (∀ a x, ((![v85] : Fin 1 → IVec S16 32) a x).toNat < S1024.size a)
theorem k0_idx17_inb : ∀ (v85 : IVec S16 32) (k0_hw17 : k0_chk17 v85), ∀ a x, ((![v85] : Fin 1 → IVec S16 32) a x).toNat < S1024.size a := fun v85 k0_hw17 => k0_hw17

def k0_chk18 (v86 : IVec S16 32) : Prop :=
  (∀ a x, ((![v86] : Fin 1 → IVec S16 32) a x).toNat < S1024.size a)
theorem k0_idx18_inb : ∀ (v86 : IVec S16 32) (k0_hw18 : k0_chk18 v86), ∀ a x, ((![v86] : Fin 1 → IVec S16 32) a x).toNat < S1024.size a := fun v86 k0_hw18 => k0_hw18

def k0_chk19 (v87 : IVec S16 32) : Prop :=
  (∀ a x, ((![v87] : Fin 1 → IVec S16 32) a x).toNat < S1024.size a)
theorem k0_idx19_inb : ∀ (v87 : IVec S16 32) (k0_hw19 : k0_chk19 v87), ∀ a x, ((![v87] : Fin 1 → IVec S16 32) a x).toNat < S1024.size a := fun v87 k0_hw19 => k0_hw19

def k0_chk20 (v88 : IVec S16 32) : Prop :=
  (∀ a x, ((![v88] : Fin 1 → IVec S16 32) a x).toNat < S1024.size a)
theorem k0_idx20_inb : ∀ (v88 : IVec S16 32) (k0_hw20 : k0_chk20 v88), ∀ a x, ((![v88] : Fin 1 → IVec S16 32) a x).toNat < S1024.size a := fun v88 k0_hw20 => k0_hw20

def k0_chk21 (v89 : IVec S16 32) : Prop :=
  (∀ a x, ((![v89] : Fin 1 → IVec S16 32) a x).toNat < S1024.size a)
theorem k0_idx21_inb : ∀ (v89 : IVec S16 32) (k0_hw21 : k0_chk21 v89), ∀ a x, ((![v89] : Fin 1 → IVec S16 32) a x).toNat < S1024.size a := fun v89 k0_hw21 => k0_hw21

def k0_chk22 (v90 : IVec S16 32) : Prop :=
  (∀ a x, ((![v90] : Fin 1 → IVec S16 32) a x).toNat < S1024.size a)
theorem k0_idx22_inb : ∀ (v90 : IVec S16 32) (k0_hw22 : k0_chk22 v90), ∀ a x, ((![v90] : Fin 1 → IVec S16 32) a x).toNat < S1024.size a := fun v90 k0_hw22 => k0_hw22

def k0_chk23 (v91 : IVec S16 32) : Prop :=
  (∀ a x, ((![v91] : Fin 1 → IVec S16 32) a x).toNat < S1024.size a)
theorem k0_idx23_inb : ∀ (v91 : IVec S16 32) (k0_hw23 : k0_chk23 v91), ∀ a x, ((![v91] : Fin 1 → IVec S16 32) a x).toNat < S1024.size a := fun v91 k0_hw23 => k0_hw23

def k0_chk24 (v92 : IVec S16 32) : Prop :=
  (∀ a x, ((![v92] : Fin 1 → IVec S16 32) a x).toNat < S1024.size a)
theorem k0_idx24_inb : ∀ (v92 : IVec S16 32) (k0_hw24 : k0_chk24 v92), ∀ a x, ((![v92] : Fin 1 → IVec S16 32) a x).toNat < S1024.size a := fun v92 k0_hw24 => k0_hw24

def k0_chk25 (v93 : IVec S16 32) : Prop :=
  (∀ a x, ((![v93] : Fin 1 → IVec S16 32) a x).toNat < S1024.size a)
theorem k0_idx25_inb : ∀ (v93 : IVec S16 32) (k0_hw25 : k0_chk25 v93), ∀ a x, ((![v93] : Fin 1 → IVec S16 32) a x).toNat < S1024.size a := fun v93 k0_hw25 => k0_hw25

def k0_chk26 (v94 : IVec S16 32) : Prop :=
  (∀ a x, ((![v94] : Fin 1 → IVec S16 32) a x).toNat < S1024.size a)
theorem k0_idx26_inb : ∀ (v94 : IVec S16 32) (k0_hw26 : k0_chk26 v94), ∀ a x, ((![v94] : Fin 1 → IVec S16 32) a x).toNat < S1024.size a := fun v94 k0_hw26 => k0_hw26

def k0_chk27 (v95 : IVec S16 32) : Prop :=
  (∀ a x, ((![v95] : Fin 1 → IVec S16 32) a x).toNat < S1024.size a)
theorem k0_idx27_inb : ∀ (v95 : IVec S16 32) (k0_hw27 : k0_chk27 v95), ∀ a x, ((![v95] : Fin 1 → IVec S16 32) a x).toNat < S1024.size a := fun v95 k0_hw27 => k0_hw27

def k0_chk28 (v96 : IVec S16 32) : Prop :=
  (∀ a x, ((![v96] : Fin 1 → IVec S16 32) a x).toNat < S1024.size a)
theorem k0_idx28_inb : ∀ (v96 : IVec S16 32) (k0_hw28 : k0_chk28 v96), ∀ a x, ((![v96] : Fin 1 → IVec S16 32) a x).toNat < S1024.size a := fun v96 k0_hw28 => k0_hw28

def k0_chk29 (v97 : IVec S16 32) : Prop :=
  (∀ a x, ((![v97] : Fin 1 → IVec S16 32) a x).toNat < S1024.size a)
theorem k0_idx29_inb : ∀ (v97 : IVec S16 32) (k0_hw29 : k0_chk29 v97), ∀ a x, ((![v97] : Fin 1 → IVec S16 32) a x).toNat < S1024.size a := fun v97 k0_hw29 => k0_hw29

def k0_chk30 (v98 : IVec S16 32) : Prop :=
  (∀ a x, ((![v98] : Fin 1 → IVec S16 32) a x).toNat < S1024.size a)
theorem k0_idx30_inb : ∀ (v98 : IVec S16 32) (k0_hw30 : k0_chk30 v98), ∀ a x, ((![v98] : Fin 1 → IVec S16 32) a x).toNat < S1024.size a := fun v98 k0_hw30 => k0_hw30

def k0_chk31 (v99 : IVec S16 32) : Prop :=
  (∀ a x, ((![v99] : Fin 1 → IVec S16 32) a x).toNat < S1024.size a)
theorem k0_idx31_inb : ∀ (v99 : IVec S16 32) (k0_hw31 : k0_chk31 v99), ∀ a x, ((![v99] : Fin 1 → IVec S16 32) a x).toNat < S1024.size a := fun v99 k0_hw31 => k0_hw31

def k0_chk32 (v100 : IVec S16 32) : Prop :=
  (∀ a x, ((![v100] : Fin 1 → IVec S16 32) a x).toNat < S1024.size a)
theorem k0_idx32_inb : ∀ (v100 : IVec S16 32) (k0_hw32 : k0_chk32 v100), ∀ a x, ((![v100] : Fin 1 → IVec S16 32) a x).toNat < S1024.size a := fun v100 k0_hw32 => k0_hw32
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r1 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "both" => some ((123708798743 / 137438953472 : ℝ) : EReal)
  | _ => none
-- ==== ReferenceIdeal.lean ====
abbrev S16384x1000 : Shape := ⟨2, ![16384, 1000]⟩
abbrev S16384 : Shape := ⟨1, ![16384]⟩
abbrev S_ : Shape := ⟨0, ![]⟩
abbrev S1000 : Shape := ⟨1, ![1000]⟩
abbrev S16384x1 : Shape := ⟨2, ![16384, 1]⟩
abbrev S16384x2 : Shape := ⟨2, ![16384, 2]⟩
abbrev S1x1000 : Shape := ⟨2, ![1, 1000]⟩

abbrev nBuf : Space → Nat
  | .hbm => 109
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1000, .i32⟩
  | .hbm, ⟨3, _⟩ => ⟨S_, .f32⟩
  | .hbm, ⟨4, _⟩ => ⟨S_, .i32⟩
  | .hbm, ⟨5, _⟩ => ⟨S16384, .f32⟩
  | .hbm, ⟨6, _⟩ => ⟨S16384, .i32⟩
  | .hbm, ⟨7, _⟩ => ⟨S16384, .i1⟩
  | .hbm, ⟨8, _⟩ => ⟨S16384, .f32⟩
  | .hbm, ⟨9, _⟩ => ⟨S_, .f32⟩
  | .hbm, ⟨10, _⟩ => ⟨S1000, .f32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S1000, .f32⟩
  | .hbm, ⟨24, _⟩ => ⟨S_, .i32⟩
  | .hbm, ⟨25, _⟩ => ⟨S1000, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S_, .i32⟩
  | .hbm, ⟨39, _⟩ => ⟨S16384, .i32⟩
  | .hbm, ⟨40, _⟩ => ⟨S1000, .i32⟩
  | .hbm, ⟨41, _⟩ => ⟨S1000, .f32⟩
  | .hbm, ⟨42, _⟩ => ⟨S_, .f32⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S1000, .f32⟩
  | .hbm, ⟨47, _⟩ => ⟨S_, .f32⟩
  | .hbm, ⟨48, _⟩ => ⟨S1000, .f32⟩
  | .hbm, ⟨49, _⟩ => ⟨S1000, .f32⟩
  | .hbm, ⟨50, _⟩ => ⟨S_, .f32⟩
  | .hbm, ⟨51, _⟩ => ⟨S1000, .f32⟩
  | .hbm, ⟨52, _⟩ => ⟨S1000, .f32⟩
  | .hbm, ⟨53, _⟩ => ⟨S_, .f32⟩
  | .hbm, ⟨54, _⟩ => ⟨S_, .f32⟩
  | .hbm, ⟨55, _⟩ => ⟨S1000, .f32⟩
  | .hbm, ⟨56, _⟩ => ⟨S1000, .f32⟩
  | .hbm, ⟨57, _⟩ => ⟨S_, .f32⟩
  | .hbm, ⟨58, _⟩ => ⟨S16384x1000, .f32⟩
  | .hbm, ⟨59, _⟩ => ⟨S16384, .i32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S16384x1, .i32⟩
  | .hbm, ⟨76, _⟩ => ⟨S16384x2, .i32⟩
  | .hbm, ⟨77, _⟩ => ⟨S_, .f32⟩
  | .hbm, ⟨78, _⟩ => ⟨S16384, .f32⟩
  | .hbm, ⟨79, _⟩ => ⟨S16384x1000, .f32⟩
  | .hbm, ⟨80, _⟩ => ⟨S_, .f32⟩
  | .hbm, ⟨81, _⟩ => ⟨S1000, .f32⟩
  | .hbm, ⟨82, _⟩ => ⟨S1000, .f32⟩
  | .hbm, ⟨83, _⟩ => ⟨S1x1000, .f32⟩
  | .hbm, ⟨84, _⟩ => ⟨S16384x1000, .f32⟩
  | .hbm, ⟨85, _⟩ => ⟨S16384x1000, .f32⟩
  | .hbm, ⟨86, _⟩ => ⟨S_, .f32⟩
  | .hbm, ⟨87, _⟩ => ⟨S16384, .f32⟩
  | .hbm, ⟨88, _⟩ => ⟨S_, .f32⟩
  | .hbm, ⟨89, _⟩ => ⟨S16384, .f32⟩
  | .hbm, ⟨90, _⟩ => ⟨S16384, .f32⟩
  | .hbm, ⟨91, _⟩ => ⟨S16384x1, .f32⟩
  | .hbm, ⟨92, _⟩ => ⟨S16384x1000, .f32⟩
  | .hbm, ⟨93, _⟩ => ⟨S16384x1000, .f32⟩
  | .hbm, ⟨94, _⟩ => ⟨S16384x1000, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S16384x1, .f32⟩
  | .hbm, ⟨99, _⟩ => ⟨S16384x1000, .f32⟩
  | .hbm, ⟨100, _⟩ => ⟨S16384x1000, .f32⟩
  | .hbm, ⟨101, _⟩ => ⟨S16384x1000, .f32⟩
  | .hbm, ⟨102, _⟩ => ⟨S16384x1000, .f32⟩
  | .hbm, ⟨103, _⟩ => ⟨S_, .f32⟩
  | .hbm, ⟨104, _⟩ => ⟨S16384, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_cst_10 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_11 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_14 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_cst_17 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call4_cst : Ref sig .tc := ⟨.hbm, 86, rfl⟩
abbrev main_call4_v0 : Ref sig .tc := ⟨.hbm, 87, rfl⟩
abbrev main_call4_cst_0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_cst_1 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_18 : Ref sig .tc := ⟨.hbm, 103, rfl⟩
abbrev main_v57 : Ref sig .tc := ⟨.hbm, 104, rfl⟩
abbrev main_cst_19 : Ref sig .tc := ⟨.hbm, 105, rfl⟩
abbrev main_v58 : Ref sig .tc := ⟨.hbm, 106, rfl⟩
abbrev main_cst_20 : Ref sig .tc := ⟨.hbm, 107, rfl⟩
abbrev main_v59 : Ref sig .tc := ⟨.hbm, 108, rfl⟩

abbrev nD : Nat := 1
abbrev τ : Topo := Topo.v7x

variable {F : FTy → Type} [FloatOps F]
-- ==== Proof.Layout.lean ====
/-
  Broadcasts between vectors, columns, rows and arrays of two axes, read at an index.
-/
module

public import Idealize.ShloMosaic.PureOps
public import Idealize.ShloMosaic.Lib.ValueIdx

@[expose] public section

namespace Cert.Layout

open Idealize.ShloMosaic ValueIdx

variable {α : Type} {n m : Nat}

/-- The one coordinate of an axis of size one is zero. -/
theorem pick {n : Nat} (i : Fin n) (a : n = 1 → 0 < n) (b : ¬n = 1 → i.val < n) :
    (if h : n = 1 then (⟨0, a h⟩ : Fin n) else ⟨i.val, b h⟩).val = i.val := by
  split
  · have := i.isLt
    show 0 = i.val
    omega
  · rfl

/-- An array whose columns are all the one column. -/
theorem ofCol (h : (⟨2, ![n, 1]⟩ : Shape).BroadcastsInDim ⟨2, ![n, m]⟩ ![0, 1]) (y : (⟨2, ![n, 1]⟩ : Shape).Idx → α) (i : Fin n) (j : Fin m) :
    broadcastInDim ⟨2, ![n, m]⟩ ![0, 1] h y (ix2 i j) = y (ix2 i 0) := by
  refine congrArg y (funext fun a => Fin.ext ?_)
  match a with
  | ⟨0, _⟩ =>
    exact pick i _ _
  | ⟨1, _⟩ => rfl

/-- An array whose rows are all the one row. -/
theorem ofRow (h : (⟨2, ![1, m]⟩ : Shape).BroadcastsInDim ⟨2, ![n, m]⟩ ![0, 1]) (y : (⟨2, ![1, m]⟩ : Shape).Idx → α) (i : Fin n) (j : Fin m) :
    broadcastInDim ⟨2, ![n, m]⟩ ![0, 1] h y (ix2 i j) = y (ix2 0 j) := by
  refine congrArg y (funext fun a => Fin.ext ?_)
  match a with
  | ⟨0, _⟩ => rfl
  | ⟨1, _⟩ =>
    exact pick j _ _

/-- A vector as a column. -/
theorem asCol (h : (⟨1, ![n]⟩ : Shape).BroadcastsInDim ⟨2, ![n, 1]⟩ ![0]) (y : (⟨1, ![n]⟩ : Shape).Idx → α) (i : Fin n) (j : Fin 1) :
    broadcastInDim ⟨2, ![n, 1]⟩ ![0] h y (ix2 i j) = y (ix1 i) := by
  refine congrArg y (funext fun a => Fin.ext ?_)
  match a with
  | ⟨0, _⟩ =>
    exact pick i _ _

/-- A vector as a row. -/
theorem asRow (h : (⟨1, ![m]⟩ : Shape).BroadcastsInDim ⟨2, ![1, m]⟩ ![1]) (y : (⟨1, ![m]⟩ : Shape).Idx → α) (i : Fin 1) (j : Fin m) :
    broadcastInDim ⟨2, ![1, m]⟩ ![1] h y (ix2 i j) = y (ix1 j) := by
  refine congrArg y (funext fun a => Fin.ext ?_)
  match a with
  | ⟨0, _⟩ =>
    exact pick j _ _

/-- A scalar at every index. -/
theorem ofScalar {t : Shape} (h : (⟨0, ![]⟩ : Shape).BroadcastsInDim t ![]) (y : (⟨0, ![]⟩ : Shape).Idx → α) (j : t.Idx) :
    broadcastInDim t ![] h y j = y ix0 := congrArg y (funext fun a => a.elim0)

end Cert.Layout

end
-- ==== Proof.Pre.lean ====
/-
  The preconditions, read back: `in_range` says every target is a class number; `untied` says that too, that every logit is finite, and that a target whose
  logit is not below its row's maximum is the row's first maximum.
-/
module

public import proofs.«01_k».proof.Pre_in_range
public import proofs.«01_k».proof.Pre_untied
public import proofs.«01_k».proof.Proof.Layout
public import Idealize.ShloMosaic.Lib.ReduceAll
public import Idealize.ShloMosaic.Lib.ValueIdx
public import Idealize.ShloMosaic.PureOps.Ideal.Laws

@[expose] public section

namespace Cert.Pre

open Idealize.ShloMosaic

instance : Subsingleton ((⟨0, ![]⟩ : Shape).Idx) := ⟨fun _ _ => funext fun a => a.elim0⟩

/-- A word between 0 and 1000, read as signed, is below 1000. -/
theorem lt_of_bounds {t : BitVec 32} (h0 : (0#32 : BitVec 32).toInt ≤ t.toInt) (h1 : t.toInt < (1000#32 : BitVec 32).toInt) : t.toNat < 1000 := by
  have := t.isLt
  have e0 : (0#32 : BitVec 32).toInt = 0 := by decide
  have e1 : (1000#32 : BitVec 32).toInt = 1000 := by decide
  rw [e0, BitVec.toInt_eq_toNat_cond] at h0
  rw [e1, BitVec.toInt_eq_toNat_cond] at h1
  split at h1 <;> omega

section
variable {F : FTy → Type} [FloatOps F]

theorem in_range_iff [Cert.Pre_in_range.Facts] (x : Cert.Pre_in_range.S16384x1000.Idx → F .f32) (t : Cert.Pre_in_range.S16384.Idx → BitVec 32)
    (h : Cert.Pre_in_range.fn (F := F) x t = fun _ => 1#1) (j : Cert.Pre_in_range.S16384.Idx) : (t j).toNat < 1000 := by
  have h := congrFun h ValueIdx.ix0
  have h := IntOp.andi_eq_one.1 (Host.reduce_andi_all _ _ _ _ _ h j)
  exact lt_of_bounds (IntOp.cmpi_sge.1 h.1) (IntOp.cmpi_slt.1 h.2)

end

/-- An extended real whose absolute value is below the infinite constant is a real. -/
theorem real_of_abs_lt {a : Ideal .f32} (h : FloatOps.cmpf .olt (max a (-a) : Ideal .f32) (FloatOps.ofBits .f32 0x7F800000#32) = 1#1) : ∃ r : ℝ, a = (r : EReal) := by
  have e : (FloatOps.ofBits .f32 0x7F800000#32 : Ideal .f32) = (⊤ : EReal) := by
    show Ideal.ofBits .f32 0x7F800000#32 = ⊤
    simp [Ideal.ofBits, Ideal.ieee]
  rw [e, Ideal.cmpf_def] at h
  induction a using EReal.rec with
  | bot => simp [Ideal.cmp] at h
  | top => simp [Ideal.cmp] at h
  | coe r => exact ⟨r, rfl⟩

section
variable [Cert.Pre_untied.Facts] (x : Cert.Pre_untied.S16384x1000.Idx → Ideal .f32) (t : Cert.Pre_untied.S16384.Idx → BitVec 32)
  (h : Cert.Pre_untied.fn (F := Ideal) x t = fun _ => 1#1)

include h

theorem untied_range (j : Cert.Pre_untied.S16384.Idx) : (t j).toNat < 1000 := by
  have h := congrFun h ValueIdx.ix0
  obtain ⟨h, -⟩ := IntOp.andi_eq_one.1 h
  obtain ⟨h1, -⟩ := IntOp.andi_eq_one.1 h
  have h := IntOp.andi_eq_one.1 (Host.reduce_andi_all _ _ _ _ _ h1 j)
  exact lt_of_bounds (IntOp.cmpi_sge.1 h.1) (IntOp.cmpi_slt.1 h.2)

theorem untied_finite (i : Cert.Pre_untied.S16384x1000.Idx) : ∃ r : ℝ, x i = (r : EReal) := by
  have h := congrFun h ValueIdx.ix0
  obtain ⟨h, -⟩ := IntOp.andi_eq_one.1 h
  obtain ⟨-, h2⟩ := IntOp.andi_eq_one.1 h
  exact real_of_abs_lt (Host.reduce_andi_all _ _ _ _ _ h2 i)

/-- A target whose logit is not below its row's maximum is the row's first maximum. -/
theorem untied_first (i : Fin 16384) (j : Fin 1000) (ht : t (ValueIdx.ix1 i) = BitVec.ofNat 32 j.val)
    (hm : ¬ x (ValueIdx.ix2 i j) < Host.reduce FloatOps.maximumf x (constant (F := Ideal) ⟨0, ![]⟩ .f32 0xFF800000#32)
      Cert.Pre_untied.Facts.reducesTo_S16384x1000_S16384_d1 Cert.Pre_untied.Facts.h_S_ (ValueIdx.ix1 i)) :
    Cert.Pre_untied.fn_argmax (F := Ideal) x (ValueIdx.ix1 i) = t (ValueIdx.ix1 i) := by
  have h := congrFun h ValueIdx.ix0
  obtain ⟨-, h3⟩ := IntOp.andi_eq_one.1 h
  have h := Host.reduce_andi_all _ _ _ _ _ h3 (ValueIdx.ix2 i j)
  rcases IntOp.ori_eq_one.1 h with h | h
  · rcases IntOp.ori_eq_one.1 h with h | h
    · refine absurd ?_ hm
      rw [ValueIdx.cmpf_apply, Ideal.cmpf_def, Layout.ofCol, Layout.asCol] at h
      by_contra hn
      simp only [Ideal.cmp, hn, decide_false] at h
      exact absurd h (by decide)
    · have h := IntOp.cmpi_eq.1 h
      rw [Layout.ofCol, Layout.asCol, Layout.ofRow, Layout.asRow] at h
      rw [ht]
      exact h.symm
  · have h := IntOp.cmpi_ne.1 h
    rw [Layout.ofCol, Layout.asCol, Layout.ofRow, Layout.asRow] at h
    exact absurd ht.symm h

end
end Cert.Pre

end
-- ==== Proof.Mem.lean ====
/-
  Loads and stores of a memref held at named contents.

  `owns c M q x` holds memref `M`'s elements reading `x`. A load at a unit-stride rectangle reads the window of `x` there, a store puts its payload there,
  and a scatter (`vectorStoreIdx`) rewrites `x` by `storeIdx`. Also the arithmetic of two repeated steps: filling a vector sixteen words at a time with one
  value, and counting a list of class numbers sixteen at a time.
-/
module

public import Idealize.ShloMosaic.Lib.VecWindow
public import Idealize.ShloMosaic.Lib.Writes
public import Idealize.ShloMosaic.Lib.Transfers
public import Idealize.ShloMosaic.Lib.SparseCore.Ops
public import Idealize.ShloMosaic.Lib.Tactic

@[expose] public section

noncomputable section

namespace Cert.Mem

open Idealize.ShloMosaic
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {F : FTy → Type} [FloatOps F]
variable {Ix : Type} [DecidableEq Ix] {Name : Type} [DecidableEq Name] {U : Type} [URA U] {Lvl : Type} [Preorder Lvl]
variable {Λ : Labels} {defs : Defs nD τ sig (Elt F) Λ} (𝒱 : Variants) (c : Thread nD τ) (bd : Option 𝒱.V) (E : Set Name)

local notation "𝕄" => MT nD τ sig Ix (Elt F) Name U Lvl

/-- A memref held at what contents `g` of its buffer read is its elements held at `g`. -/
theorem owns_read {sp : Space} {s : Shape} {e : EltTy} (M : Memref sig c.2.kind sp s e) (q : PosShare TreeShare) (g : Buf (Elt F) (M.view.loc c)) :
    (owns c M q (M.view.read (Elt F) g) : sProp 𝕄) = (M.view.loc c ↦[M.view.set]{q} g) := by
  refine BI.Entails.antisymm ?_ ?_
  · show iprop(∃ f, ⌜M.view.read (Elt F) f = M.view.read (Elt F) g⌝ ∗ (M.view.loc c ↦[M.view.set]{q} f)) ⊢ (M.view.loc c ↦[M.view.set]{q} g : sProp 𝕄)
    iintro ⟨%f, %hf, H⟩
    have hfg : ∀ i ∈ M.view.set, f i = g i := fun i hi => by
      obtain ⟨y, -, rfl⟩ := Finset.mem_map.mp hi
      have h := congrFun hf y
      rw [View.read_apply, View.read_apply] at h
      exact (cast_inj _).mp h
    iapply (Entails.of_eq (pointsTo_congr (ℓ := M.view.loc c) (q := q) hfg)) $$ H
  · show (M.view.loc c ↦[M.view.set]{q} g : sProp 𝕄) ⊢ iprop(∃ f, ⌜M.view.read (Elt F) f = M.view.read (Elt F) g⌝ ∗ (M.view.loc c ↦[M.view.set]{q} f))
    iintro H
    iexists g; isplitr; · ipureintro; rfl
    iexact H

/-- A load at a unit-stride rectangle of a memref held at `x` continues at the window of `x`, the memref held as before. -/
theorem load_own {α : Type} {Q : α → sProp 𝕄} {cs : CoreSpace} {s : Shape} {e : EltTy} {M : Memref sig c.2.kind cs s e}
    {off size : Fin s.rank → ℕ} {inb : ∀ a, off a + size a ≤ s.size a} {hl : M.view.LoadsAt (Rect.unit off size inb).toLoadRect}
    {k : ((Rect.unit off size inb).shape.Idx → Elt F e) → Prog (TpuEff nD τ sig (Elt F) Λ c.2) α} {q : PosShare TreeShare} {x : s.Idx → Elt F e} :
    owns c M q x ⊢ iprop((owns c M q x -∗ wp frame (wpE defs 𝒱 c bd) E (k (VecWindow.window x off size inb)) Q)
      -∗ wp frame (wpE defs 𝒱 c bd) E (.op (.load M (Rect.unit off size inb).toLoadRect hl) k) Q) := by
  unfold owns
  iintro ⟨%f, %hf, H⟩ Hk
  iapply (wp_load 𝒱 c bd E (m := M) (S := M.view.set) (q := q) (f := f) (View.setOn_subset_set _ _)) $$ H
  iintro H
  rw [View.readAt_unit M.view f inb rfl inb, hf]
  iapply Hk
  iexists f; isplitr; · ipureintro; exact hf
  iexact H

/-- A store at a unit-stride rectangle of a memref held at `x` leaves it held at `x` with the payload put there. -/
theorem store_own {α : Type} {Q : α → sProp 𝕄} {cs : CoreSpace} {s : Shape} {e : EltTy} {M : Memref sig c.2.kind cs s e}
    {off size : Fin s.rank → ℕ} {inb : ∀ a, off a + size a ≤ s.size a} {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ c.2) α} {x : s.Idx → Elt F e} :
    owns c M fullShare x ⊢ iprop((owns c M fullShare (VecWindow.put x off size w) -∗ wp frame (wpE defs 𝒱 c bd) E (k ⟨⟩) Q)
      -∗ wp frame (wpE defs 𝒱 c bd) E (.op (.store M (Rect.unit off size inb) w Finset.univ hx hm) k) Q) := by
  unfold owns
  iintro ⟨%f, %hf, H⟩ Hk
  iapply (wp_store 𝒱 c bd E (m := M) (r := Rect.unit off size inb) (Mk := Finset.univ) (S := M.view.set) (f := f)
    (Memref.setOn_access_subset _ _ _)) $$ H
  iintro H
  iapply Hk
  iexists _; isplitr
  swap; · iexact H
  ipureintro
  exact (View.read_writes_cons_put M.view f inb w [] rfl).trans (by rw [View.writes_nil, hf])

/-- A scatter into a whole memref held at `x` leaves it held at `storeIdx x …`. -/
theorem scatter_own {α : Type} {Q : α → sProp 𝕄} {s : Shape} {e : EltTy} {d : Fin 1 → Nat} {M : Memref sig c.2.kind .vmem s e}
    {idxs : Fin s.rank → IVec ⟨1, d⟩ 32} {v : Vec F ⟨1, d⟩ e}
    {mask : IVec ⟨1, d⟩ 1} {add : Bool} {h : ∀ a x, (idxs a x).toNat < s.size a} {hs : (M.access (.whole s)).Stores Finset.univ}
    {k : PUnit → Prog (TpuEff nD τ sig (Elt F) Λ c.2) α} {x : s.Idx → Elt F e} :
    owns c M fullShare x ⊢ iprop((owns c M fullShare (storeIdx x idxs v mask add h) -∗ wp frame (wpE defs 𝒱 c bd) E (k ⟨⟩) Q)
      -∗ wp frame (wpE defs 𝒱 c bd) E (SparseCore.vectorStoreIdx M idxs v mask add h hs >>= k) Q) := by
  have hset : (M.access (.whole s)).set = M.view.set := by
    show (M.view.slice (.whole s)).set = _
    rw [View.set_slice, ← Rect.map_emb_univ]
    have he : ∀ y, (Rect.whole s).emb y = y := fun y => by
      funext a; exact Fin.ext (by show 0 + 1 * (y a).val = _; omega)
    ext y
    simp [View.set, he]
  have hread : ∀ f : Buf (Elt F) (M.view.loc c), (M.access (.whole s)).read (Elt F) f = M.view.read (Elt F) f := fun f => by
    funext y; exact congrArg (M.view.read (Elt F) f) (by funext a; exact Fin.ext (by show 0 + 1 * (y a).val = _; omega))
  unfold owns
  iintro ⟨%f, %hf, H⟩ Hk
  rw [← hset]
  iapply (SparseCore.wp_vectorStoreIdx 𝒱 c bd E (base := M) (f := f)) $$ H
  iintro H
  iapply Hk
  iexists _; isplitr
  swap; · iexact H
  ipureintro
  rw [← hread, View.read_write_univ, hread, hf]

/-- A local copy and its wait: the destination then reads what the source reads, the source is held as before, and the semaphore is back at zero. -/
theorem copy_own [Infinite Name] [CountersIn U] {α : Type} {Q : α → sProp 𝕄} {sp sp' : Space} {s : Shape} {e : EltTy} {src : Memref sig c.2.kind sp s e}
    {dst : Memref sig c.2.kind sp' s e} {sem : DmaSem sig} {hsrc : src.view.WordExact} {hdst : dst.view.WordExact}
    {hsem : DmaTarget.Typed (nD := nD) sp (SemLoc.dma sem) (.here dst)} {srcw : Memref sig c.2.kind sp s e} {hsrcw : srcw.view.WordExact} {hdstw : dst.view.WordExact}
    {k : PUnit → Prog (TpuEff nD τ sig (Elt F) Λ c.2) α} {q : PosShare TreeShare} {x y : s.Idx → Elt F e} (ι : Ix)
    {O : CellTallies nD τ sig Ix} {W : Waits sig Ix} (hpos : 0 < s.numel) :
    iprop(owns c src q x ∗ owns c dst fullShare y ∗ semVal (c, .dma sem) 0 ∗ owes c O W ∗ MayWait c (.dma sem) ι O)
      ⊢ iprop((iprop(owns c src q x ∗ owns c dst fullShare x ∗ semVal (c, .dma sem) 0 ∗ owes c O (insert (SemLoc.dma sem, ι) W))
              -∗ wp frame (wpE defs 𝒱 c bd) Set.univ (k ⟨⟩) Q)
          -∗ wp frame (wpE defs 𝒱 c bd) Set.univ (.op (.enqueueDma src (.here dst) (.dma sem) hsrc hdst hsem) fun _ =>
              .op (.waitDma2 sem srcw dst hsrcw hdstw) k) Q) := by
  unfold owns
  iintro ⟨⟨%fs, %hfs, Hs⟩, ⟨%fd, %hfd, Hd⟩, Hv, HO, Hmw⟩ Hk
  iapply (Transfers.wp_dmaLocal countersEmb 𝒱 c bd (src := src) (dst := dst) (sm := .dma sem) (via := .same) (q := q) (fs := fs) (Sd := dst.view.set) (fd := fd) ι dst.view.dmaCredit rfl
    (View.dmaCredit_pos _ hpos) (Finset.Subset.refl _)) $$ [Hs Hd Hv]
  · isplitl [Hs]; · iexact Hs
    isplitl [Hd]; · iexact Hd
    iexact Hv
  iintro Hfl
  iapply (Transfers.wp_waitLocalO countersEmb 𝒱 c bd (O := O) (W := W) ι rfl) $$ [Hfl HO Hmw]
  · isplitl [Hfl]; · iexact Hfl
    isplitl [HO]; · iexact HO
    iexact Hmw
  iintro ⟨⟨Hd, Hs⟩, Hv, HO⟩
  iapply Hk
  isplitl [Hs]
  · iexists fs; isplitr; · ipureintro; exact hfs
    iexact Hs
  isplitl [Hd]
  · iexists _; isplitr
    swap; · iexact Hd
    ipureintro
    rw [View.read_write_univ]; exact hfs
  isplitl [Hv]; · iexact Hv
  iexact HO

end Rules

/-! ### Filling with one value, and counting -/

section Fill

variable {F : FTy → Type} [FloatOps F]

/-- The vector `x` with its first `n` words replaced by `z`. -/
def fillTo {A : Type} {N : ℕ} (z : A) (n : ℕ) (x : (⟨1, ![N]⟩ : Shape).Idx → A) : (⟨1, ![N]⟩ : Shape).Idx → A :=
  fun j => if (j 0).val < n then z else x j

theorem fillTo_zero {A : Type} {N : ℕ} (z : A) (x : (⟨1, ![N]⟩ : Shape).Idx → A) : fillTo z 0 x = x := by
  funext j; simp [fillTo]

theorem fillTo_all {A : Type} {N : ℕ} (z : A) (x : (⟨1, ![N]⟩ : Shape).Idx → A) : fillTo z N x = fun _ => z := by
  funext j
  have : (j 0).val < N := (j 0).isLt
  simp [fillTo, this]

/-- Putting `m` words `z` at the end of the part already filled fills `m` more. -/
theorem put_fillTo {A : Type} {N : ℕ} (z : A) (n m : ℕ) (x : (⟨1, ![N]⟩ : Shape).Idx → A):
    VecWindow.put (s := ⟨1, ![N]⟩) (fillTo z n x) ![n] ![m] (fun _ => z) = fillTo z (n + m) x := by
  funext j
  by_cases hj : n ≤ (j 0).val ∧ (j 0).val < n + m
  · have h : ∀ a, (![n] : Fin 1 → ℕ) a ≤ (j a).val ∧ (j a).val < (![n] : Fin 1 → ℕ) a + (![m] : Fin 1 → ℕ) a := fun a => by
      obtain rfl : a = 0 := Subsingleton.elim _ _; exact hj
    unfold VecWindow.put
    rw [dif_pos h]; simp [fillTo, hj.2]
  · have h : ¬ ∀ a, (![n] : Fin 1 → ℕ) a ≤ (j a).val ∧ (j a).val < (![n] : Fin 1 → ℕ) a + (![m] : Fin 1 → ℕ) a := fun h => hj (h 0)
    unfold VecWindow.put
    rw [dif_neg h]
    unfold fillTo
    by_cases h1 : (j 0).val < n
    · rw [if_pos h1, if_pos (by omega)]
    · rw [if_neg h1, if_neg (by omega)]

/-- The counts after the first `n` class numbers of the list `T`: word `j` is `z` with `one` added once for each of them equal to `j`, in their order. -/
def cnt {N : ℕ} (z one : F .f32) (T : ℕ → ℕ) : ℕ → (⟨1, ![N]⟩ : Shape).Idx → F .f32
  | 0 => fun _ => z
  | n + 1 => fun j => if (j 0).val = T n then FloatOps.idxAddf (cnt z one T n j) one else cnt z one T n j

theorem foldl_finRange {A : Type} (C : ℕ → A) (m : ℕ) (f : A → Fin m → A) (h : ∀ k : Fin m, f (C k.val) k = C (k.val + 1)) :
    (List.finRange m).foldl f (C 0) = C m := by
  induction m with
  | zero => rfl
  | succ m ih =>
    rw [List.finRange_succ_last, List.foldl_append, List.foldl_map, ih (fun a k => f a k.castSucc) fun k => h k.castSucc]
    exact h (Fin.last m)

/-- Scattering sixteen words `one` with addition at the next sixteen class numbers counts them. -/
theorem storeIdx_cnt {N : ℕ} (z one : F .f32) (T : ℕ → ℕ) (n : ℕ) (w : IVec ⟨1, ![16]⟩ 32)
    (h : ∀ a x, ((![w] : Fin 1 → IVec ⟨1, ![16]⟩ 32) a x).toNat < (⟨1, ![N]⟩ : Shape).size a)
    (hw : ∀ k : Fin 16, (w (Shape.ofLane (d := ![16]) k)).toNat = T (n + k.val)) :
    storeIdx (F := F) (s := ⟨1, ![N]⟩) (e := .f32) (cnt z one T n) ![w] (fun _ => one) (fun _ => 1#1) true h = cnt z one T (n + 16) := by
  unfold storeIdx
  refine foldl_finRange (fun k => cnt (N := N) z one T (n + k)) 16 _ fun k => ?_
  dsimp only
  rw [if_pos (show (1#1 : BitVec 1) = 1 from rfl)]
  funext j
  show _ = if (j 0).val = T (n + k.val) then _ else _
  have hi : ((idxAt (s := ⟨1, ![N]⟩) ![w] h (Shape.ofLane (d := ![16]) k)) 0).val = T (n + k.val) := hw k
  by_cases hj : (j 0).val = T (n + k.val)
  · rw [if_pos hj, if_pos (by intro a; obtain rfl : a = 0 := Subsingleton.elim _ _; rw [hj]; exact hi.symm)]
    have : idxAt (s := ⟨1, ![N]⟩) ![w] h (Shape.ofLane (d := ![16]) k) = j := by
      funext a; obtain rfl : a = 0 := Subsingleton.elim _ _
      exact Fin.ext (hi.trans hj.symm)
    rw [this, if_pos rfl]; rfl
  · rw [if_neg hj, if_neg (by intro hall; exact hj ((hall 0).trans hi))]; rfl

end Fill

end Cert.Mem

end
-- ==== Proof.Setup.lean ====
/-
  The program as its launch theorem reads it, and the ghost state every thread's proof shares.

  The ghost state is three copies side by side: the launch's handshakes, the pipelines of the two TensorCore calls, and the counters of the tiles' own copies.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Mem

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The program -/

/-- The labels of the functions the TensorCore calls run. -/
abbrev ΛP : Labels := Pipeline.Sig Λ₀ (Fin 2) fun p => (pcfgs (F := F) p).Adm
/-- The SparseCore launch. -/
abbrev K : SparseCore.Cfg τ sig (ΛP (F := F)) 1 := sc (F := F)
/-- The TensorCore calls' definitions over the kernels' bodies. -/
abbrev D : Defs nD τ sig (Elt F) (ΛP (F := F)) := Pipeline.defs pcfgs defs₀
abbrev 𝒱₀ : Variants := Variants.none
abbrev 𝒱P : Variants := 𝒱₀.lift
abbrev v₀ : 𝒱P.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ### The ghost state -/

abbrev UH : Type := URounds (GSem nD τ sig) ℕ
abbrev UP : Type := URounds (GSem nD τ sig) Unit
abbrev UU : Type := UH × UP × Counters

local notation "𝕄" => MT nD τ sig (HIx 1) (Elt F) ℕ UU ℕ

/-- The handshakes' copy. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipelines' copy. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ### The launch memory's buffers -/

/-- The logits, the targets, the per-tile counts, the targets as a column, the accumulated sums, the combined value and the result, as locations of device `d`. -/
abbrev xLoc (d : Dev nD) : Loc nD τ sig := (SparseCore.T d).loc main_arg0
abbrev tLoc (d : Dev nD) : Loc nD τ sig := (SparseCore.T d).loc main_arg1
abbrev nLoc (d : Dev nD) : Loc nD τ sig := (SparseCore.T d).loc main_v0

/-- Coordinates of the SparseCore and of the vector subcore a tile runs on. -/
abbrev cV (L : grid0.Coords) : Fin τ.nSC := (L 0).castLE hcore0
abbrev jV (L : grid0.Coords) : Fin τ.nSub := (L 1).castLE hsub0

/-- What a launch memory must hold for the SparseCore kernel to run: every class number is below 1000. -/
def InRange (m : (ℓ : Loc nD τ sig) → Buf (Elt F) ℓ) : Prop := ∀ (d : Dev nD) (j : S16384.Idx), (m (tLoc d) j : BitVec 32).toNat < 1000

end Cert.KernelIdeal.Run

end
-- ==== Proof.Dense.lean ====
/-
  The dense call's body at one grid point, and the combining call's body, at contents named throughout.

  The dense body adds a block's column sums, its sum of log-sums, its sum of target logits and its counts of correct rows to the accumulated sums, which
  the first point clears. The combining body reads the counts and the sums and writes the loss.
-/
module

public import proofs.«01_k».proof.Proof.Setup

@[expose] public section

noncomputable section

namespace Cert.KernelIdeal.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The window of a whole array is the array. -/
theorem window_all {α : Type} {s : Shape} (x : s.Idx → α) (off : Fin s.rank → ℕ) (inb : ∀ a, off a + s.size a ≤ s.size a) : VecWindow.window x off s.size inb = x := by
  funext z; exact congrArg x (Rect.emb_unit_full inb z)

/-- A whole array put over an array is the array put. -/
theorem put_all {α : Type} {s : Shape} (x : s.Idx → α) (off : Fin s.rank → ℕ) (inb : ∀ a, off a + s.size a ≤ s.size a) (w : s.Idx → α) :
    VecWindow.put x off s.size w = w := by
  have h := VecWindow.window_put_same x off s.size inb w
  rw [window_all] at h; exact h

/-- The accumulated sums after a block of logits `x` and targets `T`, from the sums `s` before it. -/
def denseStep (x : S2048x1000.Idx → F .f32) (T : S2048x1.Idx → BitVec 32) (s : S2x1024.Idx → F .f32) : S2x1024.Idx → F .f32 :=
  let s1 : S2x1024.Idx → F .f32 := VecWindow.put s ![0, 0] S1x1000.size (k1_pay1 (k1_pay8 x) (VecWindow.window s ![0, 0] S1x1000.size inb_S2x1024_S1x1000_0_0))
  let s2 : S2x1024.Idx → F .f32 := VecWindow.put s1 ![0, 0] S1x1024.size
    (k1_pay2 (k1_pay9 x T) (iota .tc S1x1024 32 [1] iota_S1x1024_d1_w32) k1_pay10 (k1_pay11 x) (Scalar.ofBits .f32 0x00000000#32)
      (VecWindow.window s1 ![0, 0] S1x1024.size inb_S2x1024_S1x1024_0_0))
  VecWindow.put s2 ![1, 0] S1x1000.size (k1_pay3 (k1_pay7 x T) (VecWindow.window s2 ![1, 0] S1x1000.size inb_S2x1024_S1x1000_1_0))

/-- The condition under which a point clears the sums: it is the first. -/
theorem first_iff (n : ℕ) (hn : n < 8) :
    (Scalar.cmpi .ne (Scalar.extui (Scalar.cmpi .eq (BitVec.ofNat 32 n) 0#32) : BitVec 32) 0#32 = 1#1) ↔ n = 0 := by
  interval_cases n <;> decide

section Bodies

variable (d : Dev nD)

/-- The dense body's first part: the sums are cleared at the first point, and the block's payloads are returned. -/
theorem dense_part {Q : _ → sProp 𝕄} (i : grid1.Coords) (arg1 : Memref sig .tc .vmem S2048x1000 .f32) (harg1 : arg1.IsWhole) (arg2 : Memref sig .tc .vmem S2048x1 .i32)
    (harg2 : arg2.IsWhole) (arg3 : Memref sig .tc .vmem S2x1024 .f32) (harg3 : arg3.IsWhole)
    (x : S2048x1000.Idx → F .f32) (T : S2048x1.Idx → BitVec 32) (s : S2x1024.Idx → F .f32) :
    iprop(owns (d : Thread nD τ) arg1 fullShare (x : S2048x1000.Idx → Elt F .f32) ∗ owns (d : Thread nD τ) arg2 fullShare (T : S2048x1.Idx → Elt F .i32)
        ∗ owns (d : Thread nD τ) arg3 fullShare (s : S2x1024.Idx → Elt F .f32))
      ⊢ iprop((iprop(owns (d : Thread nD τ) arg1 fullShare (x : S2048x1000.Idx → Elt F .f32) ∗ owns (d : Thread nD τ) arg2 fullShare (T : S2048x1.Idx → Elt F .i32)
            ∗ owns (d : Thread nD τ) arg3 fullShare ((if (i 0).val = 0 then k1_pay4 else s : S2x1024.Idx → F .f32) : S2x1024.Idx → Elt F .f32))
          -∗ Q ⟨k1_pay7 x T, k1_pay8 x, k1_pay9 x T, iota .tc S1x1024 32 [1] iota_S1x1024_d1_w32, k1_pay10, k1_pay11 x, Scalar.ofBits .f32 0x00000000#32⟩)
        -∗ wp frame (wpE (defs₀ (F := F)) 𝒱₀ (d : Thread nD τ) none) Set.univ (k1_part1 i arg1 harg1 arg2 harg2 arg3 harg3) Q) := by
  simp only [k1_part1_eq_skeleton]; unfold k1_part1_skel
  have hi : (i 0).val < 8 := (i 0).isLt
  dsimp only
  by_cases h0 : (i 0).val = 0
  · rw [if_pos h0, dif_pos ((first_iff _ hi).mpr h0)]
    simp only [Prog.lift, Prog.bind_op, Prog.bind_ret, Prog.pure_eq_ret]
    iintro ⟨H1, H2, H3⟩ Hk
    iapply (Mem.load_own 𝒱₀ (d : Thread nD τ) none Set.univ) $$ H3
    iintro H3
    iapply (Mem.store_own 𝒱₀ (d : Thread nD τ) none Set.univ) $$ H3
    iintro H3
    iapply (Mem.load_own 𝒱₀ (d : Thread nD τ) none Set.univ) $$ H1
    iintro H1
    iapply (Mem.load_own 𝒱₀ (d : Thread nD τ) none Set.univ) $$ H2
    iintro H2
    rw [wp_ret]; imodintro
    rw [window_all, window_all, put_all _ _ inb_S2x1024_S2x1024_0_0]
    iapply Hk
    isplitl [H1]; · iexact H1
    isplitl [H2]; · iexact H2
    iexact H3
  · rw [if_neg h0, dif_neg (fun h => h0 ((first_iff _ hi).mp h))]
    simp only [Prog.lift, Prog.bind_op, Prog.bind_ret, Prog.pure_eq_ret]
    iintro ⟨H1, H2, H3⟩ Hk
    iapply (Mem.load_own 𝒱₀ (d : Thread nD τ) none Set.univ) $$ H1
    iintro H1
    iapply (Mem.load_own 𝒱₀ (d : Thread nD τ) none Set.univ) $$ H2
    iintro H2
    rw [wp_ret]; imodintro
    rw [window_all, window_all]
    iapply Hk
    isplitl [H1]; · iexact H1
    isplitl [H2]; · iexact H2
    iexact H3

/-- The dense body adds its block to the sums, cleared before it at the first point. -/
theorem dense_body {Q : PUnit → sProp 𝕄} (i : grid1.Coords) (arg1 : Memref sig .tc .vmem S2048x1000 .f32) (harg1 : arg1.IsWhole) (arg2 : Memref sig .tc .vmem S2048x1 .i32)
    (harg2 : arg2.IsWhole) (arg3 : Memref sig .tc .vmem S2x1024 .f32) (harg3 : arg3.IsWhole)
    (x : S2048x1000.Idx → F .f32) (T : S2048x1.Idx → BitVec 32) (s : S2x1024.Idx → F .f32) :
    iprop(owns (d : Thread nD τ) arg1 fullShare (x : S2048x1000.Idx → Elt F .f32) ∗ owns (d : Thread nD τ) arg2 fullShare (T : S2048x1.Idx → Elt F .i32)
        ∗ owns (d : Thread nD τ) arg3 fullShare (s : S2x1024.Idx → Elt F .f32))
      ⊢ iprop((iprop(owns (d : Thread nD τ) arg1 fullShare (x : S2048x1000.Idx → Elt F .f32) ∗ owns (d : Thread nD τ) arg2 fullShare (T : S2048x1.Idx → Elt F .i32)
            ∗ owns (d : Thread nD τ) arg3 fullShare (denseStep x T (if (i 0).val = 0 then k1_pay4 else s) : S2x1024.Idx → Elt F .f32)) -∗ Q ⟨⟩)
        -∗ wp frame (wpE (defs₀ (F := F)) 𝒱₀ (d : Thread nD τ) none) Set.univ (cc1__dense_body i arg1 harg1 arg2 harg2 arg3 harg3) Q) := by
  simp only [cc1__dense_body_eq_skeleton]; unfold cc1__dense_body_skel
  iintro ⟨H1, H2, H3⟩ Hk
  rw [wp_bind]
  iapply (dense_part d i arg1 harg1 arg2 harg2 arg3 harg3 x T s) $$ [H1 H2 H3]
  · isplitl [H1]; · iexact H1
    isplitl [H2]; · iexact H2
    iexact H3
  iintro ⟨H1, H2, H3⟩
  generalize (if (i 0).val = 0 then k1_pay4 else s : S2x1024.Idx → F .f32) = s0
  dsimp only
  simp only [Prog.lift, Prog.bind_op, Prog.bind_ret, Prog.pure_eq_ret]
  iterate 3
    iapply (Mem.load_own 𝒱₀ (d : Thread nD τ) none Set.univ) $$ H3
    iintro H3
    iapply (Mem.load_own 𝒱₀ (d : Thread nD τ) none Set.univ) $$ H3
    iintro H3
    iapply (Mem.store_own 𝒱₀ (d : Thread nD τ) none Set.univ) $$ H3
    iintro H3
  rw [wp_ret]; imodintro
  iapply Hk
  isplitl [H1]; · iexact H1
  isplitl [H2]; · iexact H2
  iexact H3

/-- The value the combining body computes from the counts `n` and the sums `s`. -/
def combine (n : S32x1024.Idx → F .f32) (s : S2x1024.Idx → F .f32) : S1x1.Idx → F .f32 :=
  let v4 : S1x1024.Idx → F .f32 := VecWindow.window s ![0, 0] S1x1024.size inb_S2x1024_S1x1024_0_0
  let v6 : S1x1024.Idx → F .f32 := VecWindow.window s ![1, 0] S1x1024.size inb_S2x1024_S1x1024_1_0
  k2_pay1 (k2_pay4 v4) (k2_pay5 v4) (k2_pay7 n v6) (k2_pay8 n v4 v6)

/-- The combining body writes the value. -/
theorem comb_body {Q : PUnit → sProp 𝕄} (arg0 : Memref sig .tc .vmem S32x1024 .f32) (harg0 : arg0.IsWhole) (arg1 : Memref sig .tc .vmem S2x1024 .f32)
    (harg1 : arg1.IsWhole) (arg2 : Memref sig .tc .vmem S1x1 .f32) (harg2 : arg2.IsWhole)
    (n : S32x1024.Idx → F .f32) (s : S2x1024.Idx → F .f32) (o : S1x1.Idx → F .f32) :
    iprop(owns (d : Thread nD τ) arg0 fullShare (n : S32x1024.Idx → Elt F .f32) ∗ owns (d : Thread nD τ) arg1 fullShare (s : S2x1024.Idx → Elt F .f32)
        ∗ owns (d : Thread nD τ) arg2 fullShare (o : S1x1.Idx → Elt F .f32))
      ⊢ iprop((iprop(owns (d : Thread nD τ) arg0 fullShare (n : S32x1024.Idx → Elt F .f32) ∗ owns (d : Thread nD τ) arg1 fullShare (s : S2x1024.Idx → Elt F .f32)
            ∗ owns (d : Thread nD τ) arg2 fullShare (combine n s : S1x1.Idx → Elt F .f32)) -∗ Q ⟨⟩)
        -∗ wp frame (wpE (defs₀ (F := F)) 𝒱₀ (d : Thread nD τ) none) Set.univ (cc2__comb_body arg0 harg0 arg1 harg1 arg2 harg2) Q) := by
  simp only [cc2__comb_body_eq_skeleton]; unfold cc2__comb_body_skel
  simp only [k2_part1_eq_skeleton]; unfold k2_part1_skel
  dsimp only
  simp only [Prog.lift, Prog.bind_op, Prog.bind_ret, Prog.pure_eq_ret]
  iintro ⟨H0, H1, H2⟩ Hk
  iapply (Mem.load_own 𝒱₀ (d : Thread nD τ) none Set.univ) $$ H0
  iintro H0
  iapply (Mem.load_own 𝒱₀ (d : Thread nD τ) none Set.univ) $$ H1
  iintro H1
  iapply (Mem.load_own 𝒱₀ (d : Thread nD τ) none Set.univ) $$ H1
  iintro H1
  iapply (Mem.load_own 𝒱₀ (d : Thread nD τ) none Set.univ) $$ H2
  iintro H2
  iapply (Mem.store_own 𝒱₀ (d : Thread nD τ) none Set.univ) $$ H2
  iintro H2
  rw [wp_ret]; imodintro
  rw [window_all, put_all _ _ inb_S1x1_S1x1_0_0]
  iapply Hk
  isplitl [H0]; · iexact H0
  isplitl [H1]; · iexact H1
  iexact H2

end Bodies

end Cert.KernelIdeal.Run

end
-- ==== Proof.Regions.lean ====
/-
  The two TensorCore calls: what their windows hold at each grid point, and each call as a region of the program.

  The dense call walks eight blocks of 2048 rows; its result window stays on one block throughout, so it holds the sums accumulated so far and is written back once.
  The combining call has one point and takes whole arrays.
-/
module

public import proofs.«01_k».proof.Proof.Dense
public import Idealize.ShloMosaic.Lib.ValueIdx
public import Idealize.ShloMosaic.Lib.Pipeline.Value

@[expose] public section

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig (HIx 1) (Elt F) ℕ UU ℕ

/-! ### The contents -/

/-- Block `k` of the logits, 2048 rows. -/
def xBlk (X : S16384x1000.Idx → F .f32) (k : ℕ) : S2048x1000.Idx → F .f32 := fun j =>
  X (ValueIdx.ix2 ⟨(k * 2048 + (j 0).val) % 16384, Nat.mod_lt _ (by decide)⟩ ⟨(j 1).val, (j 1).isLt⟩)
/-- Block `k` of the column of targets. -/
def tBlk (C : S16384x1.Idx → BitVec 32) (k : ℕ) : S2048x1.Idx → BitVec 32 := fun j =>
  C (ValueIdx.ix2 ⟨(k * 2048 + (j 0).val) % 16384, Nat.mod_lt _ (by decide)⟩ ⟨(j 1).val, (j 1).isLt⟩)

/-- The sums over the first `k` blocks. -/
def statsUpTo (X : S16384x1000.Idx → F .f32) (C : S16384x1.Idx → BitVec 32) : ℕ → S2x1024.Idx → F .f32
  | 0 => k1_pay4
  | k + 1 => denseStep (xBlk X k) (tBlk C k) (statsUpTo X C k)

/-- What the arrays hold when the two calls run, on each device. -/
structure Held (F : FTy → Type) where
  X : Dev nD → S16384x1000.Idx → F .f32
  C : Dev nD → S16384x1.Idx → BitVec 32
  N : Dev nD → S32x1024.Idx → F .f32
  s0 : Dev nD → S2x1024.Idx → F .f32
  o0 : Dev nD → S1x1.Idx → F .f32

/-- The sums after all blocks. -/
abbrev Held.stats (h : Held F) (d : Dev nD) : S2x1024.Idx → F .f32 := statsUpTo (h.X d) (h.C d) 8
/-- The combined value. -/
abbrev Held.out (h : Held F) (d : Dev nD) : S1x1.Idx → F .f32 := combine (h.N d) (h.stats d)

variable (h : Held F)

/-- The waits a TensorCore may have behind it when the calls run. -/
abbrev past (d : Dev nD) : Set (SemLoc sig × HIx 1) := {p | (K (F := F)).lev (T d, p.1) p.2 ≤ 8 * SparseCore.Cfg.Blocks.fst 1 1 1}

def dat1 (d : Dev nD) : Dat τ (Elt F) (HIx 1) ℕ UU ℕ cfg1 d where
  A w := match w with
    | ⟨0, _⟩ => (h.X d : S16384x1000.Idx → Elt F .f32)
    | ⟨1, _⟩ => (h.C d : S16384x1.Idx → Elt F .i32)
    | ⟨2, _⟩ => (h.s0 d : S2x1024.Idx → Elt F .f32)
    | ⟨_ + 3, hw⟩ => absurd hw (Nat.not_lt.2 (Nat.le_add_left _ _))
  after w t := match w with
    | ⟨0, _⟩ => (xBlk (h.X d) t.val : S2048x1000.Idx → Elt F .f32)
    | ⟨1, _⟩ => (tBlk (h.C d) t.val : S2048x1.Idx → Elt F .i32)
    | ⟨2, _⟩ => (statsUpTo (h.X d) (h.C d) (t.val + 1) : S2x1024.Idx → Elt F .f32)
    | ⟨_ + 3, hw⟩ => absurd hw (Nat.not_lt.2 (Nat.le_add_left _ _))
  Φ _ := Pipeline.scopedRest (Ix := HIx 1) (Name := ℕ) (U := UU) (Lvl := ℕ) (Val := Elt F) spec1 d
  q _ := fullShare
  owed _ := 0
  recorded _ := past (F := F) d

def dat2 (d : Dev nD) : Dat τ (Elt F) (HIx 1) ℕ UU ℕ cfg2 d where
  A w := match w with
    | ⟨0, _⟩ => (h.N d : S32x1024.Idx → Elt F .f32)
    | ⟨1, _⟩ => (h.stats d : S2x1024.Idx → Elt F .f32)
    | ⟨2, _⟩ => (h.o0 d : S1x1.Idx → Elt F .f32)
    | ⟨_ + 3, hw⟩ => absurd hw (Nat.not_lt.2 (Nat.le_add_left _ _))
  after w _ := match w with
    | ⟨0, _⟩ => (h.N d : S32x1024.Idx → Elt F .f32)
    | ⟨1, _⟩ => (h.stats d : S2x1024.Idx → Elt F .f32)
    | ⟨2, _⟩ => (h.out d : S1x1.Idx → Elt F .f32)
    | ⟨_ + 3, hw⟩ => absurd hw (Nat.not_lt.2 (Nat.le_add_left _ _))
  Φ _ := Pipeline.scopedRest (Ix := HIx 1) (Name := ℕ) (U := UU) (Lvl := ℕ) (Val := Elt F) spec2 d
  q _ := fullShare
  owed _ := 0
  recorded _ := past (F := F) d

/-- The two calls' proof data. -/
def pdats : (p : Fin 2) → (d : Dev nD) → Dat τ (Elt F) (HIx 1) ℕ UU ℕ (cfgs p) d
  | ⟨0, _⟩, d => dat1 h d
  | ⟨1, _⟩, d => dat2 h d
  | ⟨_ + 2, hp⟩, _ => absurd hp (Nat.not_lt.2 (Nat.le_add_left _ _))

/-! ### The windows' blocks -/

theorem index_rows : ∀ t : Fin grid1.N, (cc1_transform_0 (grid1.coords t) 0 = t.val ∧ cc1_transform_0 (grid1.coords t) 1 = 0)
    ∧ (cc1_transform_1 (grid1.coords t) 0 = t.val ∧ cc1_transform_1 (grid1.coords t) 1 = 0) := by decide +kernel
theorem coords_zero : ∀ t : Fin grid1.N, ((grid1.coords t) 0).val = t.val := by decide +kernel

theorem read_x (d : Dev nD) (t : Fin grid1.N) : (win1_0.blk t).view.read (Elt F) ((dat1 h d).A 0) = (xBlk (h.X d) t.val : S2048x1000.Idx → Elt F .f32) := by
  have hi := (index_rows t).1
  have ht : t.val < 8 := by exact t.isLt.trans_eq N_1
  funext j
  refine congrArg (h.X d) (funext fun a => Fin.ext ?_)
  match a with
  | ⟨0, _⟩ =>
    show cc1_transform_0 (grid1.coords t) 0 * 2048 + 1 * (j 0).val = (t.val * 2048 + (j 0).val) % 16384
    have hj : (j 0).val < 2048 := (j 0).isLt
    rw [hi.1, Nat.mod_eq_of_lt (show t.val * 2048 + (j 0).val < 16384 by omega)]; omega
  | ⟨1, _⟩ =>
    show cc1_transform_0 (grid1.coords t) 1 * 1000 + 1 * (j 1).val = (j 1).val
    rw [hi.2]; omega

theorem read_t (d : Dev nD) (t : Fin grid1.N) : (win1_1.blk t).view.read (Elt F) ((dat1 h d).A 1) = (tBlk (h.C d) t.val : S2048x1.Idx → Elt F .i32) := by
  have hi := (index_rows t).2
  have ht : t.val < 8 := by exact t.isLt.trans_eq N_1
  funext j
  refine congrArg (h.C d) (funext fun a => Fin.ext ?_)
  match a with
  | ⟨0, _⟩ =>
    show cc1_transform_1 (grid1.coords t) 0 * 2048 + 1 * (j 0).val = (t.val * 2048 + (j 0).val) % 16384
    have hj : (j 0).val < 2048 := (j 0).isLt
    rw [hi.1, Nat.mod_eq_of_lt (show t.val * 2048 + (j 0).val < 16384 by omega)]; omega
  | ⟨1, _⟩ =>
    show cc1_transform_1 (grid1.coords t) 1 * 1 + 1 * (j 1).val = (j 1).val
    rw [hi.2]; omega

theorem before1_0 (d : Dev nD) (t : Fin grid1.N) (e) : (dat1 h d).before 0 t e = (xBlk (h.X d) t.val : S2048x1000.Idx → Elt F .f32) :=
  ((dat1 h d).before_fetched 0 t (fetch1_0 t) e).trans (read_x h d t)
theorem before1_1 (d : Dev nD) (t : Fin grid1.N) (e) : (dat1 h d).before 1 t e = (tBlk (h.C d) t.val : S2048x1.Idx → Elt F .i32) :=
  ((dat1 h d).before_fetched 1 t (fetch1_1 t) e).trans (read_t h d t)

/-- Before a point the result window holds the sums so far, but at the first, which clears it. -/
theorem step1 (d : Dev nD) (t : Fin grid1.N) (e) :
    denseStep (xBlk (h.X d) t.val) (tBlk (h.C d) t.val) (if ((grid1.coords t) 0).val = 0 then k1_pay4 else ((dat1 h d).before 2 t e : S2x1024.Idx → F .f32))
      = statsUpTo (h.X d) (h.C d) (t.val + 1) := by
  rw [coords_zero]
  by_cases h0 : t.val = 0
  · rw [if_pos h0, h0]; rfl
  · rw [if_neg h0]
    have hN : t.val < 8 := by exact t.isLt.trans_eq N_1
    have hfl : (cfg1.win 2).flush ⟨t.val - 1, Nat.lt_of_le_of_lt (Nat.sub_le _ _) t.isLt⟩ = false := by
      rw [Bool.eq_false_iff]; intro hf
      have := (flush1_2 _).mp hf
      dsimp only at this; omega
    rw [(dat1 h d).before_out_kept 2 rfl t h0 hfl (fun _ => rfl) (fun _ _ => rfl) e]
    show denseStep _ _ (statsUpTo (h.X d) (h.C d) (t.val - 1 + 1)) = denseStep _ _ (statsUpTo (h.X d) (h.C d) t.val)
    rw [Nat.sub_add_cancel (Nat.pos_of_ne_zero h0)]

theorem body1 (d : Dev nD) : BodyObligation (dat1 h d) (defs₀ (F := F)) 𝒱₀ none Set.univ := fun t => by
  rw [bigSep_W1, bigSep_W1]
  rw [show (dat1 h d).Φ t.succ = (dat1 h d).Φ t.castSucc from rfl]
  iintro ⟨HΦ, HO, ⟨%e0, H0⟩, ⟨%e1, H1⟩, ⟨%e2, H2⟩⟩
  rw [before1_0, before1_1]
  iapply (dense_body d (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2))
    (xBlk (h.X d) t.val) (tBlk (h.C d) t.val) ((dat1 h d).before 2 t e2)) $$ [H0 H1 H2]
  · isplitl [H0]; · iexact H0
    isplitl [H1]; · iexact H1
    iexact H2
  rw [step1]
  iintro ⟨H0, H1, H2⟩
  isplitl [HΦ]; · iexact HΦ
  isplitl [HO]; · iexact HO
  isplitl [H0]; · iexact H0
  isplitl [H1]; · iexact H1
  iexact H2

theorem before2_0 (d : Dev nD) (t : Fin grid2.N) (e) : (dat2 h d).before 0 t e = (h.N d : S32x1024.Idx → Elt F .f32) :=
  ((dat2 h d).before_fetched 0 t (fetch2_0 t) e).trans (by
    obtain rfl := fin_N2 t
    funext j
    refine congrArg (h.N d) (funext fun a => Fin.ext ?_)
    match a with
    | ⟨0, _⟩ => show 0 * _ + 1 * (j 0).val = (j 0).val; omega
    | ⟨1, _⟩ => show 0 * _ + 1 * (j 1).val = (j 1).val; omega)
theorem before2_1 (d : Dev nD) (t : Fin grid2.N) (e) : (dat2 h d).before 1 t e = (h.stats d : S2x1024.Idx → Elt F .f32) :=
  ((dat2 h d).before_fetched 1 t (fetch2_1 t) e).trans (by
    obtain rfl := fin_N2 t
    funext j
    refine congrArg (h.stats d) (funext fun a => Fin.ext ?_)
    match a with
    | ⟨0, _⟩ => show 0 * _ + 1 * (j 0).val = (j 0).val; omega
    | ⟨1, _⟩ => show 0 * _ + 1 * (j 1).val = (j 1).val; omega)

theorem body2 (d : Dev nD) : BodyObligation (dat2 h d) (defs₀ (F := F)) 𝒱₀ none Set.univ := fun t => by
  rw [bigSep_W2, bigSep_W2]
  rw [show (dat2 h d).Φ t.succ = (dat2 h d).Φ t.castSucc from rfl]
  iintro ⟨HΦ, HO, ⟨%e0, H0⟩, ⟨%e1, H1⟩, ⟨%e2, H2⟩⟩
  rw [before2_0, before2_1]
  iapply (comb_body d (win2_0.stage (cfg2.slots t 0)) (hstage2_0 0) (win2_1.stage (cfg2.slots t 1)) (hstage2_1 0) (win2_2.stage (cfg2.slots t 2)) (hstage2_2 0)
    (h.N d) (h.stats d) ((dat2 h d).before 2 t e2)) $$ [H0 H1 H2]
  · isplitl [H0]; · iexact H0
    isplitl [H1]; · iexact H1
    iexact H2
  iintro ⟨H0, H1, H2⟩
  isplitl [HΦ]; · iexact HΦ
  isplitl [HO]; · iexact HO
  isplitl [H0]; · iexact H0
  isplitl [H1]; · iexact H1
  iexact H2

/-! ### The arrays after the calls -/

theorem read_stats (t : Fin grid1.N) (G : S2x1024.Idx → F .f32) : (win1_2.blk t).view.read (Elt F) (G : S2x1024.Idx → Elt F .f32) = (G : S2x1024.Idx → Elt F .f32) := by
  funext j
  refine congrArg G (funext fun a => Fin.ext ?_)
  match a with
  | ⟨0, _⟩ => show 0 * _ + 1 * (j 0).val = (j 0).val; omega
  | ⟨1, _⟩ => show 0 * _ + 1 * (j 1).val = (j 1).val; omega

theorem read_out (t : Fin grid2.N) (G : S1x1.Idx → F .f32) : (win2_2.blk t).view.read (Elt F) (G : S1x1.Idx → Elt F .f32) = (G : S1x1.Idx → Elt F .f32) := by
  funext j
  refine congrArg G (funext fun a => Fin.ext ?_)
  match a with
  | ⟨0, _⟩ => show 0 * _ + 1 * (j 0).val = (j 0).val; omega
  | ⟨1, _⟩ => show 0 * _ + 1 * (j 1).val = (j 1).val; omega

theorem final1 (d : Dev nD) : (dat1 h d).arrAt 2 cfg1.N = (h.stats d : S2x1024.Idx → Elt F .f32) := by
  refine (dat1 h d).arrAt_eq_of_cover 2 _ (fun t hf => ?_) fun i => ⟨t1_7, (flush1_2 _).mpr rfl, ?_⟩
  · have hN : t.val < 8 := by exact t.isLt.trans_eq N_1
    have h7 := (flush1_2 t).mp hf
    refine Eq.trans ?_ (read_stats t (h.stats d)).symm
    show (statsUpTo (h.X d) (h.C d) (t.val + 1) : S2x1024.Idx → F .f32) = statsUpTo (h.X d) (h.C d) 8
    rw [show t.val + 1 = 8 by omega]
  · show i ∈ ((View.whole main_v2).slice (win1_2.rect t1_7)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

theorem final2 (d : Dev nD) : (dat2 h d).arrAt 2 cfg2.N = (h.out d : S1x1.Idx → Elt F .f32) := by
  refine (dat2 h d).arrAt_eq_of_cover 2 _ (fun t hf => (read_out t (h.out d)).symm) fun i => ⟨t2_0, flush2_2 _, ?_⟩
  show i ∈ ((View.whole main_v3).slice (win2_2.rect t2_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

end Cert.KernelIdeal.Run

end
-- ==== Proof.Calls.lean ====
/-
  The two TensorCore calls as regions of the program: the arrays each takes and leaves.
-/
module

public import proofs.«01_k».proof.Proof.Regions
public import Idealize.ShloMosaic.Lib.Pipeline.Regions

@[expose] public section

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig (HIx 1) (Elt F) ℕ UU ℕ

variable (h : Held F)

/-- The column of targets, the accumulated sums, the combined value and the result, as locations of device `d`. -/
abbrev cLoc (d : Dev nD) : Loc nD τ sig := (SparseCore.T d).loc main_v1
abbrev sLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-- The TensorCore owes nothing, and its waits are behind it. -/
def idle (d : Dev nD) : sProp 𝕄 :=
  iprop(∃ W, ⌜(K (F := F)).WBelow (T d) W (8 * SparseCore.Cfg.Blocks.fst 1 1 1)⌝ ∗ owes (T d) (0 : CellTallies nD τ sig (HIx 1)) W)

/-- What the dense call takes and leaves, but for the sums' array. -/
def held1 (d : Dev nD) (s : S2x1024.Idx → F .f32) : sProp 𝕄 :=
  iprop((xLoc d ↦{fullShare} (h.X d : S16384x1000.Idx → Elt F .f32)) ∗ (cLoc d ↦{fullShare} (h.C d : S16384x1.Idx → Elt F .i32))
    ∗ (sLoc d ↦{fullShare} (s : S2x1024.Idx → Elt F .f32)))
/-- What the combining call takes and leaves, but for the value's array. -/
def held2 (d : Dev nD) (o : S1x1.Idx → F .f32) : sProp 𝕄 :=
  iprop((nLoc d ↦{fullShare} (h.N d : S32x1024.Idx → Elt F .f32)) ∗ (sLoc d ↦{fullShare} (h.stats d : S2x1024.Idx → Elt F .f32))
    ∗ (oLoc d ↦{fullShare} (o : S1x1.Idx → Elt F .f32)))

abbrev adm : (p : Fin 2) → (pcfgs (F := F) p).Adm := fun p => (cfgs p).toPCfg_adm

theorem no_own {s : Finset PEmpty} {M : Type} [URA M] (Φ : PEmpty → sProp M) : (BI.emp : sProp M) ⊢ bigSep s Φ := by
  rw [show s = ∅ from Finset.eq_empty_of_isEmpty s, BI.bigSep_empty]
theorem no_tables {s : Finset (Fin 0)} {M : Type} [URA M] (Φ : Fin 0 → sProp M) : (BI.emp : sProp M) ⊢ bigSep s Φ := by
  rw [show s = ∅ from Finset.eq_empty_of_isEmpty s, BI.bigSep_empty]

theorem idle_in (d : Dev nD) (R : Set (SemLoc sig × HIx 1)) (hR : past (F := F) d ⊆ R) : (idle d : sProp 𝕄) ⊢ Pipeline.owesWithin d 0 R := by
  unfold idle Pipeline.owesWithin
  iintro ⟨%W, %hW, HO⟩
  iexists W
  isplitr; · ipureintro; exact fun p hp => hR (hW p hp)
  iexact HO

theorem idle_out (d : Dev nD) (R : Set (SemLoc sig × HIx 1)) (hR : R ⊆ past (F := F) d) : Pipeline.owesWithin d 0 R ⊢ (idle d : sProp 𝕄) := by
  unfold idle Pipeline.owesWithin
  iintro ⟨%W, %hW, HO⟩
  iexists W
  isplitr; · ipureintro; exact fun p hp => hR (hW hp)
  iexact HO

/-- A pipeline's own waits are below every call's. -/
theorem bound_past (d : Dev nD) {cfg : Pipeline.Cfg sig Λ₀} : past (F := F) d ∪ cfg.waitPairs none ⊆ past (F := F) d := by
  rintro p (hp | ⟨w, s, rfl⟩)
  · exact hp
  · exact Nat.zero_le _

theorem arrays1 (d : Dev nD) (A : (w : Fin 3) → Buf (Elt F) ((cfg1.win w).arr.view.loc (d : Thread nD τ))) :
    (dat1 h d).arrays A = iprop((xLoc d ↦{fullShare} A 0) ∗ (cLoc d ↦{fullShare} A 1) ∗ (sLoc d ↦{fullShare} A 2)) :=
  (Pipeline.arrays_eq cfgs (pdats h) 0 d arr_whole1 ((dat1 h d).share_full fun _ => rfl) A).trans (bigSep_W1 _)
theorem arrays2 (d : Dev nD) (A : (w : Fin 3) → Buf (Elt F) ((cfg2.win w).arr.view.loc (d : Thread nD τ))) :
    (dat2 h d).arrays A = iprop((nLoc d ↦{fullShare} A 0) ∗ (sLoc d ↦{fullShare} A 1) ∗ (oLoc d ↦{fullShare} A 2)) :=
  (Pipeline.arrays_eq cfgs (pdats h) 1 d arr_whole2 ((dat2 h d).share_full fun _ => rfl) A).trans (bigSep_W2 _)

theorem entry1 (d : Dev nD) : held1 h d (h.s0 d) ⊢ (dat1 h d).arrays ((dat1 h d).arrAt · 0) :=
  Entails.of_eq (by rw [arrays1]; rfl)
theorem entry2 (d : Dev nD) : held2 h d (h.o0 d) ⊢ (dat2 h d).arrays ((dat2 h d).arrAt · 0) :=
  Entails.of_eq (by rw [arrays2]; rfl)
theorem exit1 (d : Dev nD) : (dat1 h d).arrays ((dat1 h d).arrAt · cfg1.N) ⊢ held1 h d (h.stats d) :=
  Entails.of_eq (by rw [arrays1, (dat1 h d).arrAt_in 0 rfl, (dat1 h d).arrAt_in 1 rfl, final1]; rfl)
theorem exit2 (d : Dev nD) : (dat2 h d).arrays ((dat2 h d).arrAt · cfg2.N) ⊢ held2 h d (h.out d) :=
  Entails.of_eq (by rw [arrays2, (dat2 h d).arrAt_in 0 rfl, (dat2 h d).arrAt_in 1 rfl, final2]; rfl)

set_option backward.isDefEq.respectTransparency.types false in
/-- The dense call. -/
def reg1 : Pipeline.RegionSeg (pcfgs (F := F)) adm (pdats h) none defs₀ 𝒱₀ (K (F := F)).L (K (F := F)).lev 0 where
  win := launch1.win.to₀
  block_pos := launch1.block_pos
  stage_whole := launch1.stage_whole
  K := PEmpty
  osem := fun e => nomatch e
  ho := Pipeline.OwnSemFacts.none _
  hbody d := (body1 h d).loose
  hwaits := Pipeline.hwaits_of_owed_zero _ _ _ _ _ _ 0 fun _ _ => rfl
  pre d := iprop(held1 h d (h.s0 d) ∗ idle d)
  post d := iprop(held1 h d (h.stats d) ∗ idle d)
  X _ := iprop(emp)
  Y _ := iprop(emp)
  Z _ := iprop(emp)
  hentry d := by
    show iprop((held1 h d (h.s0 d) ∗ idle d) ∗ _ ∗ _)
      ⊢ |={Set.univ}=> iprop((dat1 h d).arrays ((dat1 h d).arrAt · 0) ∗ Pipeline.prefHeld (pcfgs 0).pre d (fun _ => fullShare) (adm 0).1
        ∗ Pipeline.owesWithin d 0 (past (F := F) d ∪ cfg1.waitPairs none) ∗ emp ∗ emp)
    iintro ⟨⟨Hh, HO⟩, -, -⟩
    imodintro
    isplitl [Hh]; · iapply (entry1 h d) $$ Hh
    isplitr; · unfold Pipeline.prefHeld; iapply (no_tables (M := 𝕄) _); iempintro
    isplitl [HO]; · iapply (idle_in d _ Set.subset_union_left) $$ HO
    isplitl <;> iempintro
  hin d := by
    show iprop(emp ∗ _ ∗ Pipeline.scopedRest spec1 d) ⊢ Pipeline.scopedRest spec1 d
    iintro ⟨-, -, H⟩
    iexact H
  hout d := by
    show (Pipeline.scopedRest spec1 d : sProp 𝕄) ⊢ iprop(emp ∗ Pipeline.ownSems0 (fun e : PEmpty => nomatch e) d ∗ Pipeline.scopedRest spec1 d)
    iintro H
    isplitr; · iempintro
    isplitr; · unfold Pipeline.ownSems0; iapply (no_own (M := 𝕄) _); iempintro
    iexact H
  hexit d := by
    show iprop((dat1 h d).arrays ((dat1 h d).arrAt · cfg1.N) ∗ Pipeline.owesWithin d 0 (past (F := F) d ∪ cfg1.waitPairs none) ∗ emp ∗ emp)
      ⊢ |={Set.univ}=> iprop(held1 h d (h.stats d) ∗ idle d)
    iintro ⟨Ha, HO, -, -⟩
    imodintro
    isplitl [Ha]; · iapply (exit1 h d) $$ Ha
    iapply (idle_out d _ (bound_past d)) $$ HO

set_option backward.isDefEq.respectTransparency.types false in
/-- The combining call. -/
def reg2 : Pipeline.RegionSeg (pcfgs (F := F)) adm (pdats h) none defs₀ 𝒱₀ (K (F := F)).L (K (F := F)).lev 1 where
  win := launch2.win.to₀
  block_pos := launch2.block_pos
  stage_whole := launch2.stage_whole
  K := PEmpty
  osem := fun e => nomatch e
  ho := Pipeline.OwnSemFacts.none _
  hbody d := (body2 h d).loose
  hwaits := Pipeline.hwaits_of_owed_zero _ _ _ _ _ _ 1 fun _ _ => rfl
  pre d := iprop(held2 h d (h.o0 d) ∗ idle d)
  post d := iprop(held2 h d (h.out d) ∗ idle d)
  X _ := iprop(emp)
  Y _ := iprop(emp)
  Z _ := iprop(emp)
  hentry d := by
    show iprop((held2 h d (h.o0 d) ∗ idle d) ∗ _ ∗ _)
      ⊢ |={Set.univ}=> iprop((dat2 h d).arrays ((dat2 h d).arrAt · 0) ∗ Pipeline.prefHeld (pcfgs 1).pre d (fun _ => fullShare) (adm 1).1
        ∗ Pipeline.owesWithin d 0 (past (F := F) d ∪ cfg2.waitPairs none) ∗ emp ∗ emp)
    iintro ⟨⟨Hh, HO⟩, -, -⟩
    imodintro
    isplitl [Hh]; · iapply (entry2 h d) $$ Hh
    isplitr; · unfold Pipeline.prefHeld; iapply (no_tables (M := 𝕄) _); iempintro
    isplitl [HO]; · iapply (idle_in d _ Set.subset_union_left) $$ HO
    isplitl <;> iempintro
  hin d := by
    show iprop(emp ∗ _ ∗ Pipeline.scopedRest spec2 d) ⊢ Pipeline.scopedRest spec2 d
    iintro ⟨-, -, H⟩
    iexact H
  hout d := by
    show (Pipeline.scopedRest spec2 d : sProp 𝕄) ⊢ iprop(emp ∗ Pipeline.ownSems0 (fun e : PEmpty => nomatch e) d ∗ Pipeline.scopedRest spec2 d)
    iintro H
    isplitr; · iempintro
    isplitr; · unfold Pipeline.ownSems0; iapply (no_own (M := 𝕄) _); iempintro
    iexact H
  hexit d := by
    show iprop((dat2 h d).arrays ((dat2 h d).arrAt · cfg2.N) ∗ Pipeline.owesWithin d 0 (past (F := F) d ∪ cfg2.waitPairs none) ∗ emp ∗ emp)
      ⊢ |={Set.univ}=> iprop(held2 h d (h.out d) ∗ idle d)
    iintro ⟨Ha, HO, -, -⟩
    imodintro
    isplitl [Ha]; · iapply (exit2 h d) $$ Ha
    iapply (idle_out d _ (bound_past d)) $$ HO

end Cert.KernelIdeal.Run

end
-- ==== Proof.Tile.lean ====
/-
  One tile's task: it fetches its 512 class numbers, clears a 1024-word vector, counts the class numbers into it, and writes the vector to its row of the counts.

  The task's text is unrolled; each of its parts is run here by three steps — clear sixteen words, fetch sixteen class numbers and check them, count
  sixteen class numbers — at contents named throughout, so the row written is known word for word.
-/
module

public import proofs.«01_k».proof.Proof.Setup

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The word the vector is cleared to, and the word added for each class number. -/
def zeroF : F .f32 := Scalar.ofBits .f32 0x00000000#32
def oneF : F .f32 := Scalar.ofBits .f32 0x3F800000#32

/-- A list of 512 class numbers, as a function of the position. -/
def clsOf (t : S512.Idx → BitVec 32) (k : ℕ) : ℕ := (t (Shape.ofLane (d := ![512]) (⟨k % 512, Nat.mod_lt _ (by decide)⟩ : Fin 512))).toNat

/-- The counts after the first `n` class numbers of the list. -/
abbrev cntTo (t : S512.Idx → BitVec 32) (n : ℕ) : S1024.Idx → F .f32 := Mem.cnt (N := 1024) zeroF oneF (clsOf t) n

/-- Sixteen class numbers fetched from the list are the list's. -/
theorem window_cls (t : S512.Idx → BitVec 32) (n : ℕ) (inb : ∀ a, (![n] : Fin 1 → ℕ) a + S16.size a ≤ S512.size a) (k : Fin 16) :
    (VecWindow.window t ![n] S16.size inb (Shape.ofLane (d := ![16]) k)).toNat = clsOf t (n + k.val) := by
  have h : n + 16 ≤ 512 := inb 0
  have hk := k.isLt
  unfold VecWindow.window clsOf
  congr 2
  funext a
  obtain rfl : a = 0 := Subsingleton.elim _ _
  refine Fin.ext ?_
  show n + 1 * k.val = (n + k.val) % 512
  rw [Nat.mod_eq_of_lt (by omega)]; omega

section Steps

variable (d : Dev nD) (L : grid0.Coords)
variable {arg4 : Memref sig .scVector .vmem S512 .i32} {arg5 : Memref sig .scVector .vmem S1024 .f32}

/-- The thread of the tile at `L`. -/
abbrev thr : Thread nD τ := V d (cV L) (jV L)

/-- Clearing sixteen more words. -/
theorem zero_step {α : Type} {Q : α → sProp 𝕄} {n : ℕ} {x : S1024.Idx → F .f32} {inb : ∀ a, (![n] : Fin 1 → ℕ) a + S16.size a ≤ S1024.size a}
    {hl : arg5.view.LoadsAt (Rect.unit (s := S1024) ![n] S16.size inb).toLoadRect} {hx : (arg5.access (Rect.unit (s := S1024) ![n] S16.size inb)).Stores Finset.univ}
    {hm : Finset.univ = Finset.univ ∨ ∀ a, (Rect.unit (s := S1024) ![n] S16.size inb).stride a = 1}
    {k : PUnit → Prog (TpuEff nD τ sig (Elt F) Λ₀ (thr d L).2) α} :
    owns (thr d L) arg5 fullShare (Mem.fillTo zeroF n x : S1024.Idx → F .f32)
      ⊢ iprop((owns (thr d L) arg5 fullShare (Mem.fillTo zeroF (n + 16) x : S1024.Idx → F .f32) -∗ wp frame (wpE (defs₀ (F := F)) 𝒱₀ (thr d L) none) Set.univ (k ⟨⟩) Q)
        -∗ wp frame (wpE (defs₀ (F := F)) 𝒱₀ (thr d L) none) Set.univ
            (.op (.load arg5 (Rect.unit (s := S1024) ![n] S16.size inb).toLoadRect hl) fun _ =>
              .op (.store arg5 (Rect.unit (s := S1024) ![n] S16.size inb) (k0_pay1 (F := F)) Finset.univ hx hm) k) Q) := by
  iintro H Hk
  iapply (Mem.load_own 𝒱₀ (thr d L) none Set.univ) $$ H
  iintro H
  iapply (Mem.store_own 𝒱₀ (thr d L) none Set.univ) $$ H
  iintro H
  iapply Hk
  rw [← Mem.put_fillTo]
  iexact H

/-- The check of sixteen fetched class numbers passes when every class number of the list is below 1024. -/
theorem chk_window {t : S512.Idx → BitVec 32} (ht : ∀ j, (t j).toNat < 1024) {n : ℕ} {inb : ∀ a, (![n] : Fin 1 → ℕ) a + S16.size a ≤ S512.size a} :
    ∀ a x, ((![VecWindow.window t ![n] S16.size inb] : Fin 1 → IVec S16 32) a x).toNat < S1024.size a := by
  intro a x
  obtain rfl : a = 0 := Subsingleton.elim _ _
  exact ht _

/-- Fetching sixteen class numbers and checking them. -/
theorem fetch_step {α : Type} {Q : α → sProp 𝕄} {t : S512.Idx → BitVec 32} {n : ℕ} {inb : ∀ a, (![n] : Fin 1 → ℕ) a + S16.size a ≤ S512.size a} {P : IVec S16 32 → Prop} {dP : ∀ v, Decidable (P v)}
    (hP : P (VecWindow.window t ![n] S16.size inb))
    {hl : arg4.view.LoadsAt (Rect.unit (s := S512) ![n] S16.size inb).toLoadRect}
    {k : (v : IVec S16 32) → PLift (P v) → Prog (TpuEff nD τ sig (Elt F) Λ₀ (thr d L).2) α} :
    owns (thr d L) arg4 fullShare (t : S512.Idx → Elt F .i32)
      ⊢ iprop((owns (thr d L) arg4 fullShare (t : S512.Idx → Elt F .i32)
              -∗ wp frame (wpE (defs₀ (F := F)) 𝒱₀ (thr d L) none) Set.univ (k (VecWindow.window t ![n] S16.size inb) ⟨hP⟩) Q)
        -∗ wp frame (wpE (defs₀ (F := F)) 𝒱₀ (thr d L) none) Set.univ
            (.op (.load arg4 (Rect.unit (s := S512) ![n] S16.size inb).toLoadRect hl) fun (v : Vec F S16 .i32) => .op (.assume (P v) (dP v)) (k v)) Q) := by
  iintro H Hk
  iapply (Mem.load_own 𝒱₀ (thr d L) none Set.univ) $$ H
  iintro H
  rw [wp_assume_of 𝒱₀ (thr d L) none Set.univ hP]
  iapply Hk
  iexact H

/-- Counting sixteen more class numbers. -/
theorem count_step {α : Type} {Q : α → sProp 𝕄} {t : S512.Idx → BitVec 32} {n : ℕ} {inb : ∀ a, (![n] : Fin 1 → ℕ) a + S16.size a ≤ S512.size a}
    {h : ∀ a x, ((![VecWindow.window t ![n] S16.size inb] : Fin 1 → IVec S16 32) a x).toNat < S1024.size a} {hs : (arg5.access (.whole S1024)).Stores Finset.univ}
    {k : PUnit → Prog (TpuEff nD τ sig (Elt F) Λ₀ (thr d L).2) α} :
    owns (thr d L) arg5 fullShare (cntTo t n : S1024.Idx → F .f32)
      ⊢ iprop((owns (thr d L) arg5 fullShare (cntTo t (n + 16) : S1024.Idx → F .f32) -∗ wp frame (wpE (defs₀ (F := F)) 𝒱₀ (thr d L) none) Set.univ (k ⟨⟩) Q)
        -∗ wp frame (wpE (defs₀ (F := F)) 𝒱₀ (thr d L) none) Set.univ
            (SparseCore.vectorStoreIdx arg5 ![VecWindow.window t ![n] S16.size inb] (k0_pay2 (F := F)) (fun _ => 1#1) true h hs >>= k) Q) := by
  iintro H Hk
  iapply (Mem.scatter_own 𝒱₀ (thr d L) none Set.univ) $$ H
  iintro H
  iapply Hk
  unfold cntTo
  rw [← Mem.storeIdx_cnt zeroF oneF (clsOf t) n (VecWindow.window t ![n] S16.size inb) h (window_cls t n inb)]
  iexact H

end Steps

section Parts

variable (d : Dev nD) (L : grid0.Coords)
variable (arg2 : Memref sig .scVector .hbm S16384 .i32) (harg2 : arg2.IsWhole) (arg3 : Memref sig .scVector .hbm S32x1024 .f32) (harg3 : arg3.IsWhole)
variable (arg4 : Memref sig .scVector .vmem S512 .i32) (harg4 : arg4.IsWhole) (arg5 : Memref sig .scVector .vmem S1024 .f32) (harg5 : arg5.IsWhole)
variable (s0 s1 : DmaSems sig S_)

/-- The tile's piece of the class numbers, and its row of the counts, as the task slices them. -/
abbrev tPiece : Memref sig .scVector .hbm S512 .i32 := arg2.slice (Rect.unit (s := S16384) (k0_off1 L) S512.size (k0_off1_inb L)) (fun _ => rfl)
abbrev nRow : Memref sig .scVector .hbm S1024 .f32 :=
  (arg3.slice (Rect.unit (s := S32x1024) (k0_off2 L) S1x1024.size (k0_off2_inb L)) (fun _ => rfl)).squeeze S1024 squeezes_S1x1024_S1024

/-- The first part fetches the class numbers and clears words 0 to 239. -/
theorem part1 {Q : FVec F S16 .f32 → sProp 𝕄} (q : PosShare TreeShare) (t y : S512.Idx → Elt F .i32) (x : S1024.Idx → F .f32)
    (O : CellTallies nD τ sig (HIx 1)) (W : Waits sig (HIx 1)) :
    iprop(owns (thr d L) (tPiece L arg2) q t ∗ owns (thr d L) arg4 fullShare y ∗ owns (thr d L) arg5 fullShare (x : S1024.Idx → Elt F .f32)
        ∗ semVal (thr d L, .dma s0.sem) 0 ∗ owes (thr d L) O W ∗ MayWait (thr d L) (.dma s0.sem) none O)
      ⊢ iprop((iprop(owns (thr d L) (tPiece L arg2) q t ∗ owns (thr d L) arg4 fullShare t ∗ owns (thr d L) arg5 fullShare (Mem.fillTo zeroF 240 x : S1024.Idx → F .f32)
            ∗ semVal (thr d L, .dma s0.sem) 0 ∗ owes (thr d L) O (insert (SemLoc.dma s0.sem, none) W)) -∗ Q (k0_pay1 (F := F)))
        -∗ wp frame (wpE (defs₀ (F := F)) 𝒱₀ (thr d L) none) Set.univ (k0_part1 L arg2 harg2 arg3 harg3 arg4 harg4 arg5 harg5 s0 s1) Q) := by
  simp only [k0_part1_eq_skeleton]; unfold k0_part1_skel
  simp only [Prog.lift, Prog.bind_op, Prog.bind_ret, Prog.pure_eq_ret]
  iintro ⟨Ht, H4, H, Hv, HO, Hmw⟩ Hk
  iapply (Mem.copy_own 𝒱₀ (thr d L) none (src := tPiece L arg2) (dst := arg4) (x := t) (y := y) (none : HIx 1) (by decide)) $$ [Ht H4 Hv HO Hmw]
  · isplitl [Ht]; · iexact Ht
    isplitl [H4]; · iexact H4
    isplitl [Hv]; · iexact Hv
    isplitl [HO]; · iexact HO
    iexact Hmw
  iintro ⟨Ht, H4, Hv, HO⟩
  rw [← Mem.fillTo_zero zeroF x]
  iterate 15 (iapply (zero_step d L) $$ H; iintro H)
  rw [wp_ret]
  imodintro
  rw [Mem.fillTo_zero zeroF x]
  iapply Hk
  isplitl [Ht]; · iexact Ht
  isplitl [H4]; · iexact H4
  isplitl [H]; · iexact H
  isplitl [Hv]; · iexact Hv
  iexact HO

/-- The second part clears words 240 to 559. -/
theorem part2 {Q : PUnit → sProp 𝕄} (x : S1024.Idx → F .f32) :
    owns (thr d L) arg5 fullShare (Mem.fillTo zeroF 240 x : S1024.Idx → F .f32)
      ⊢ iprop((owns (thr d L) arg5 fullShare (Mem.fillTo zeroF 560 x : S1024.Idx → F .f32) -∗ Q ⟨⟩)
        -∗ wp frame (wpE (defs₀ (F := F)) 𝒱₀ (thr d L) none) Set.univ (k0_part2 L arg2 harg2 arg3 harg3 arg4 harg4 arg5 harg5 s0 s1 (k0_pay1 (F := F))) Q) := by
  simp only [k0_part2_eq_skeleton]; unfold k0_part2_skel
  simp only [Prog.lift, Prog.bind_op, Prog.bind_ret, Prog.pure_eq_ret]
  iintro H Hk
  iterate 20 (iapply (zero_step d L) $$ H; iintro H)
  rw [wp_ret]
  imodintro
  iapply Hk
  iexact H

/-- The third part clears words 560 to 879. -/
theorem part3 {Q : PUnit → sProp 𝕄} (x : S1024.Idx → F .f32) :
    owns (thr d L) arg5 fullShare (Mem.fillTo zeroF 560 x : S1024.Idx → F .f32)
      ⊢ iprop((owns (thr d L) arg5 fullShare (Mem.fillTo zeroF 880 x : S1024.Idx → F .f32) -∗ Q ⟨⟩)
        -∗ wp frame (wpE (defs₀ (F := F)) 𝒱₀ (thr d L) none) Set.univ (k0_part3 L arg2 harg2 arg3 harg3 arg4 harg4 arg5 harg5 s0 s1 (k0_pay1 (F := F))) Q) := by
  simp only [k0_part3_eq_skeleton]; unfold k0_part3_skel
  simp only [Prog.lift, Prog.bind_op, Prog.bind_ret, Prog.pure_eq_ret]
  iintro H Hk
  iterate 20 (iapply (zero_step d L) $$ H; iintro H)
  rw [wp_ret]
  imodintro
  iapply Hk
  iexact H

/-- The list's positions the parts stop at. -/
theorem inb112 : ∀ a, (![112] : Fin 1 → ℕ) a + S16.size a ≤ S512.size a := by decide
theorem inb352 : ∀ a, (![352] : Fin 1 → ℕ) a + S16.size a ≤ S512.size a := by decide

/-- The fourth part clears the last words, counts the first 112 class numbers, and fetches and checks sixteen more. -/
theorem part4 {Q : (Σ' (_ : FVec F S16 .f32) (v76 : Vec F S16 .i32), k0_chk8 v76) → sProp 𝕄} {t : S512.Idx → BitVec 32} (ht : ∀ j, (t j).toNat < 1024) (x : S1024.Idx → F .f32) :
    iprop(owns (thr d L) arg4 fullShare (t : S512.Idx → Elt F .i32) ∗ owns (thr d L) arg5 fullShare (Mem.fillTo zeroF 880 x : S1024.Idx → F .f32))
      ⊢ iprop((iprop(owns (thr d L) arg4 fullShare (t : S512.Idx → Elt F .i32) ∗ owns (thr d L) arg5 fullShare (cntTo t 112 : S1024.Idx → F .f32))
            -∗ Q ⟨k0_pay2 (F := F), VecWindow.window t ![112] S16.size inb112, chk_window ht⟩)
        -∗ wp frame (wpE (defs₀ (F := F)) 𝒱₀ (thr d L) none) Set.univ (k0_part4 L arg2 harg2 arg3 harg3 arg4 harg4 arg5 harg5 s0 s1 (k0_pay1 (F := F))) Q) := by
  simp only [k0_part4_eq_skeleton]; unfold k0_part4_skel
  simp only [Prog.lift, Prog.bind_op, Prog.bind_ret, Prog.pure_eq_ret]
  iintro ⟨Ht, H⟩ Hk
  iterate 9 (iapply (zero_step d L) $$ H; iintro H)
  ihave H := (Entails.of_eq (show (owns (thr d L) arg5 fullShare (Mem.fillTo zeroF 1024 x : S1024.Idx → F .f32) : sProp 𝕄)
    = owns (thr d L) arg5 fullShare (cntTo t 0 : S1024.Idx → F .f32) by rw [Mem.fillTo_all]; rfl)) $$ H
  iterate 7 (iapply (fetch_step d L (chk_window ht)) $$ Ht; iintro Ht; iapply (count_step d L) $$ H; iintro H)
  iapply (fetch_step d L (chk_window ht)) $$ Ht; iintro Ht
  rw [wp_ret]
  imodintro
  iapply Hk
  isplitl [Ht]; · iexact Ht
  iexact H

/-- The fifth part counts class numbers 112 to 351, and fetches and checks sixteen more. -/
theorem part5 {Q : (Σ' (v91 : Vec F S16 .i32), k0_chk23 v91) → sProp 𝕄} {t : S512.Idx → BitVec 32} (ht : ∀ j, (t j).toNat < 1024)
    (hw : k0_chk8 (VecWindow.window t ![112] S16.size inb112)) :
    iprop(owns (thr d L) arg4 fullShare (t : S512.Idx → Elt F .i32) ∗ owns (thr d L) arg5 fullShare (cntTo t 112 : S1024.Idx → F .f32))
      ⊢ iprop((iprop(owns (thr d L) arg4 fullShare (t : S512.Idx → Elt F .i32) ∗ owns (thr d L) arg5 fullShare (cntTo t 352 : S1024.Idx → F .f32))
            -∗ Q ⟨VecWindow.window t ![352] S16.size inb352, chk_window ht⟩)
        -∗ wp frame (wpE (defs₀ (F := F)) 𝒱₀ (thr d L) none) Set.univ (k0_part5 L arg2 harg2 arg3 harg3 arg4 harg4 arg5 harg5 s0 s1 (k0_pay2 (F := F))
            (VecWindow.window t ![112] S16.size inb112) hw) Q) := by
  simp only [k0_part5_eq_skeleton]; unfold k0_part5_skel
  simp only [Prog.lift, Prog.bind_op, Prog.bind_ret, Prog.pure_eq_ret]
  iintro ⟨Ht, H⟩ Hk
  iapply (count_step d L) $$ H; iintro H
  iterate 14 (iapply (fetch_step d L (chk_window ht)) $$ Ht; iintro Ht; iapply (count_step d L) $$ H; iintro H)
  iapply (fetch_step d L (chk_window ht)) $$ Ht; iintro Ht
  rw [wp_ret]
  imodintro
  iapply Hk
  isplitl [Ht]; · iexact Ht
  iexact H

/-- The whole task: the tile's row of the counts ends holding the counts of the tile's 512 class numbers. -/
theorem task {Q : PUnit → sProp 𝕄} (q : PosShare TreeShare) {t : S512.Idx → BitVec 32} (ht : ∀ j, (t j).toNat < 1024) (y : S512.Idx → Elt F .i32) (x z : S1024.Idx → Elt F .f32)
    (O : CellTallies nD τ sig (HIx 1)) (W : Waits sig (HIx 1)) :
    iprop(owns (thr d L) (tPiece L arg2) q (t : S512.Idx → Elt F .i32) ∗ owns (thr d L) (nRow L arg3) fullShare z ∗ owns (thr d L) arg4 fullShare y ∗ owns (thr d L) arg5 fullShare x
        ∗ semVal (thr d L, .dma s0.sem) 0 ∗ semVal (thr d L, .dma s1.sem) 0 ∗ owes (thr d L) O W
        ∗ MayWait (thr d L) (.dma s0.sem) none O ∗ MayWait (thr d L) (.dma s1.sem) none O)
      ⊢ iprop((iprop(owns (thr d L) (tPiece L arg2) q (t : S512.Idx → Elt F .i32) ∗ owns (thr d L) (nRow L arg3) fullShare (cntTo t 512 : S1024.Idx → F .f32)
            ∗ owns (thr d L) arg4 fullShare (t : S512.Idx → Elt F .i32) ∗ owns (thr d L) arg5 fullShare (cntTo t 512 : S1024.Idx → F .f32)
            ∗ semVal (thr d L, .dma s0.sem) 0 ∗ semVal (thr d L, .dma s1.sem) 0
            ∗ owes (thr d L) O (insert (SemLoc.dma s1.sem, none) (insert (SemLoc.dma s0.sem, none) W))) -∗ Q ⟨⟩)
        -∗ wp frame (wpE (defs₀ (F := F)) 𝒱₀ (thr d L) none) Set.univ (cc0_sc_kernel L arg2 harg2 arg3 harg3 arg4 harg4 arg5 harg5 s0 s1) Q) := by
  simp only [cc0_sc_kernel_eq_skeleton]; unfold cc0_sc_kernel_skel
  simp only [Prog.lift, Prog.bind_op, Prog.bind_ret, Prog.pure_eq_ret]
  iintro ⟨Ht, Hn, H4, H, Hv0, Hv1, HO, Hm0, Hm1⟩ Hk
  rw [wp_bind]
  iapply (part1 d L arg2 harg2 arg3 harg3 arg4 harg4 arg5 harg5 s0 s1 q t y x O W) $$ [Ht H4 H Hv0 HO Hm0]
  · isplitl [Ht]; · iexact Ht
    isplitl [H4]; · iexact H4
    isplitl [H]; · iexact H
    isplitl [Hv0]; · iexact Hv0
    isplitl [HO]; · iexact HO
    iexact Hm0
  iintro ⟨Ht, H4, H, Hv0, HO⟩
  rw [wp_bind]
  iapply (part2 d L arg2 harg2 arg3 harg3 arg4 harg4 arg5 harg5 s0 s1 x) $$ H
  iintro H
  rw [wp_bind]
  iapply (part3 d L arg2 harg2 arg3 harg3 arg4 harg4 arg5 harg5 s0 s1 x) $$ H
  iintro H
  rw [wp_bind]
  iapply (part4 d L arg2 harg2 arg3 harg3 arg4 harg4 arg5 harg5 s0 s1 ht x) $$ [H4 H]
  · isplitl [H4] <;> iassumption
  iintro ⟨H4, H⟩
  dsimp only
  rw [wp_bind]
  iapply (part5 d L arg2 harg2 arg3 harg3 arg4 harg4 arg5 harg5 s0 s1 ht _) $$ [H4 H]
  · isplitl [H4] <;> iassumption
  iintro ⟨H4, H⟩
  dsimp only
  iapply (count_step d L) $$ H; iintro H
  iterate 9 (iapply (fetch_step d L (chk_window ht)) $$ H4; iintro H4; iapply (count_step d L) $$ H; iintro H)
  iapply (Mem.copy_own 𝒱₀ (thr d L) none (src := arg5) (dst := nRow L arg3) (y := z) (none : HIx 1) (by decide)) $$ [H Hn Hv1 HO Hm1]
  · isplitl [H]; · iexact H
    isplitl [Hn]; · iexact Hn
    isplitl [Hv1]; · iexact Hv1
    isplitl [HO]; · iexact HO
    iexact Hm1
  iintro ⟨H, Hn, Hv1, HO⟩
  rw [wp_ret]
  imodintro
  iapply Hk
  isplitl [Ht]; · iexact Ht
  isplitl [Hn]; · iexact Hn
  isplitl [H4]; · iexact H4
  isplitl [H]; · iexact H
  isplitl [Hv0]; · iexact Hv0
  isplitl [Hv1]; · iexact Hv1
  iexact HO

end Parts

end Cert.KernelIdeal.Run

end
-- ==== Proof.Tiles.lean ====
/-
  The SparseCore launch: what its handshakes carry, and every tile's obligation.

  Each tile is handed its 512 class numbers and its row of the counts and gives them back, the row holding the counts of those class numbers. A SparseCore
  is handed its sixteen tiles' pieces together, and the caller every piece: the class numbers whole and the counts whole.
-/
module

public import proofs.«01_k».proof.Proof.Tile

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ### The tiles' pieces -/

abbrev tV : Memref sig .scVector .hbm S16384 .i32 := Memref.whole main_arg1_scv
abbrev nV : Memref sig .scVector .hbm S32x1024 .f32 := Memref.whole main_v0_scv
abbrev sT : Memref sig .scVector .vmem S512 .i32 := Memref.whole cc0_scratch0
abbrev sN : Memref sig .scVector .vmem S1024 .f32 := Memref.whole cc0_scratch1

/-- The elements of the class numbers, and of the counts, that are the tile's. -/
abbrev tSet (L : grid0.Coords) : Finset S16384.Idx := (tPiece L tV).view.set
abbrev nSet (L : grid0.Coords) : Finset S32x1024.Idx := (nRow L nV).view.set

theorem mem_tSet (L : grid0.Coords) (j : S16384.Idx) :
    j ∈ tSet L ↔ 1024 * (L 1).val + 512 * (L 0).val ≤ (j 0).val ∧ (j 0).val < 1024 * (L 1).val + 512 * (L 0).val + 512 := by
  have h : tSet L = (Rect.unit (s := S16384) (k0_off1 L) S512.size (k0_off1_inb L)).set := by
    show ((View.whole (main_arg1_scv : Ref sig .scVector)).slice _).set = _
    rw [View.set_slice]; exact Finset.map_refl
  rw [h, Rect.mem_set_unit]
  have e : k0_off1 L 0 = 1024 * (L 1).val + 512 * (L 0).val := congrFun (k0_off1_eq L) 0
  constructor
  · intro H; have := H 0; rw [e] at this; exact this
  · intro H a; obtain rfl : a = 0 := Subsingleton.elim _ _; rw [e]; exact H

theorem mem_nSet (L : grid0.Coords) (j : S32x1024.Idx) : j ∈ nSet L ↔ (j 0).val = 2 * (L 1).val + (L 0).val := by
  have h : nSet L = (Rect.unit (s := S32x1024) (k0_off2 L) S1x1024.size (k0_off2_inb L)).set := by
    show (((View.whole (main_v0_scv : Ref sig .scVector)).slice (Rect.unit (s := S32x1024) (k0_off2 L) S1x1024.size (k0_off2_inb L))).reshape S1024
      squeezes_S1x1024_S1024.numel_eq).set = _
    rw [View.set_reshape, View.set_slice]; exact Finset.map_refl
  rw [h, Rect.mem_set_unit]
  have e0 : k0_off2 L 0 = 2 * (L 1).val + (L 0).val := congrFun (k0_off2_eq L) 0
  have e1 : k0_off2 L 1 = 0 := congrFun (k0_off2_eq L) 1
  constructor
  · intro H
    have h0 := H 0
    rw [e0] at h0
    have h0' : (j 0).val < 2 * (L 1).val + (L 0).val + 1 := h0.2
    omega
  · intro H a
    match a with
    | 0 => rw [e0]; exact ⟨by omega, show (j 0).val < 2 * (L 1).val + (L 0).val + 1 by omega⟩
    | 1 => rw [e1]; exact ⟨Nat.zero_le _, by have := (j 1).isLt; show (j 1).val < 0 + 1024; simpa using this⟩

/-! ### The counts -/

/-- The class number at position `k` of tile `w`'s list. -/
def tileCls (T : S16384.Idx → BitVec 32) (w k : ℕ) : ℕ :=
  (T (Shape.ofLane (d := ![16384]) (⟨(w * 512 + k % 512) % 16384, Nat.mod_lt _ (by decide)⟩ : Fin 16384))).toNat

/-- The counts of every tile: row `w` holds the counts of tile `w`'s 512 class numbers. -/
def countsBuf (T : S16384.Idx → BitVec 32) : S32x1024.Idx → F .f32 :=
  fun j => Mem.cnt (N := 1024) zeroF oneF (tileCls T (j 0).val) 512 (Shape.ofLane (d := ![1024]) (j 1))

/-- The tile's list, read through its piece of the class numbers. -/
abbrev tileT (T : S16384.Idx → Elt F .i32) (L : grid0.Coords) : S512.Idx → Elt F .i32 := (tPiece L tV).view.read (Elt F) T

theorem tileT_apply (T : S16384.Idx → Elt F .i32) (L : grid0.Coords) (j : S512.Idx) :
    ∃ i : S16384.Idx, tileT (F := F) T L j = T i ∧ (i 0).val = 1024 * (L 1).val + 512 * (L 0).val + (j 0).val := by
  refine ⟨(tPiece L tV).view.emb j, (View.read_apply _ _).trans (cast_eq _ _), ?_⟩
  have e : k0_off1 L 0 = 1024 * (L 1).val + 512 * (L 0).val := congrFun (k0_off1_eq L) 0
  show k0_off1 L 0 + 1 * (j 0).val = _
  rw [e]; omega

theorem clsOf_tileT (T : S16384.Idx → Elt F .i32) (L : grid0.Coords) : clsOf (tileT (F := F) T L) = tileCls T (2 * (L 1).val + (L 0).val) := by
  funext k
  unfold clsOf tileCls
  obtain ⟨i, hi, h0⟩ := tileT_apply (F := F) T L (Shape.ofLane (d := ![512]) (⟨k % 512, Nat.mod_lt _ (by decide)⟩ : Fin 512))
  rw [hi]
  congr 2
  funext a
  obtain rfl : a = 0 := Subsingleton.elim _ _
  refine Fin.ext (h0.trans ?_)
  have h1 : (L 1).val < 16 := (L 1).isLt
  have h2 : (L 0).val < 2 := (L 0).isLt
  show 1024 * (L 1).val + 512 * (L 0).val + k % 512 = ((2 * (L 1).val + (L 0).val) * 512 + k % 512) % 16384
  have := Nat.mod_lt k (show 0 < 512 by decide)
  rw [Nat.mod_eq_of_lt (show (2 * (L 1).val + (L 0).val) * 512 + k % 512 < 16384 by omega)]; omega

/-- The tile's row of the counts read through its piece. -/
theorem read_countsBuf (T : S16384.Idx → Elt F .i32) (L : grid0.Coords) :
    (nRow L nV).view.read (Elt F) (countsBuf (F := F) T : S32x1024.Idx → Elt F .f32) = (cntTo (tileT (F := F) T L) 512 : S1024.Idx → F .f32) := by
  funext y
  refine ((View.read_apply _ _).trans (cast_eq _ _)).trans ?_
  have e0 : k0_off2 L 0 = 2 * (L 1).val + (L 0).val := congrFun (k0_off2_eq L) 0
  have e1 : k0_off2 L 1 = 0 := congrFun (k0_off2_eq L) 1
  have hr : Shape.reshapeEquiv (s := S1x1024) (s' := S1024) squeezes_S1x1024_S1024.numel_eq y = Fin.cons ⟨0, Nat.one_pos⟩ y :=
    Shape.reshapeEquiv_cons_one (n := 1) (d := ![1024]) _ y
  have hemb : (nRow L nV).view.emb y
      = (Rect.unit (s := S32x1024) (k0_off2 L) S1x1024.size (k0_off2_inb L)).emb (Shape.reshapeEquiv (s := S1x1024) (s' := S1024) squeezes_S1x1024_S1024.numel_eq y) := rfl
  have h0 : ((nRow L nV).view.emb y 0).val = 2 * (L 1).val + (L 0).val := by
    rw [hemb, hr]; show k0_off2 L 0 + 1 * 0 = _; rw [e0]; omega
  have h1 : ((nRow L nV).view.emb y 1).val = (y 0).val := by
    rw [hemb, hr]; show k0_off2 L 1 + 1 * (y 0).val = _; rw [e1]; omega
  unfold countsBuf cntTo
  rw [clsOf_tileT, h0]
  congr 1
  funext a
  obtain rfl : a = 0 := Subsingleton.elim _ _
  exact Fin.ext h1

/-! ### What the handshakes carry -/

variable (m : (ℓ : Loc nD τ sig) → Buf (Elt F) ℓ)

/-- The class numbers the launch memory holds. -/
abbrev tgt (d : Dev nD) : S16384.Idx → Elt F .i32 := m (tLoc d)

/-- A tile's pieces as it is handed them, and as it gives them back. -/
abbrev goPts (d : Dev nD) (L : grid0.Coords) : sProp 𝕄 := iprop((tLoc d ↦[tSet L]{fullShare} m (tLoc d)) ∗ nLoc d ↦[nSet L]{fullShare} m (nLoc d))
abbrev tdPts (d : Dev nD) (L : grid0.Coords) : sProp 𝕄 :=
  iprop((tLoc d ↦[tSet L]{fullShare} m (tLoc d)) ∗ nLoc d ↦[nSet L]{fullShare} (countsBuf (F := F) (tgt m d) : S32x1024.Idx → Elt F .f32))

/-- The tile on SparseCore `c` and vector subcore `i`. -/
def coordsV (c : Fin (grid0.bound 0)) (s : Fin (grid0.bound 1)) : grid0.Coords :=
  fun | 0 => c | 1 => s | ⟨_ + 2, h⟩ => absurd h (Nat.not_lt.2 (Nat.le_add_left _ _))

theorem nSub_zero : (K (F := F)).nSub 0 = 16 := rfl
theorem nCore_zero : (K (F := F)).nCore 0 = 2 := rfl

abbrev tileOf (c : Fin 2) (i : Fin 16) : grid0.Coords := coordsV c i

/-- The launch's handshakes: a SparseCore its sixteen tiles' pieces, a tile its own. -/
def P : (K (F := F)).Pay (nD := nD) (Val := Elt F) (Name := ℕ) (U := UU) where
  st := fun q d c => match q with | 0 => bigSep Finset.univ fun i : Fin 16 => goPts m d (tileOf (Fin.cast nCore_zero c) i)
  dn := fun q d c => match q with | 0 => bigSep Finset.univ fun i : Fin 16 => tdPts m d (tileOf (Fin.cast nCore_zero c) i)
  go := fun q d c i => match q with | 0 => goPts m d (tileOf (Fin.cast nCore_zero c) (Fin.cast nSub_zero i))
  td := fun q d c i => match q with | 0 => tdPts m d (tileOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goPts m d (tileOf (Fin.cast nCore_zero c) i)))
  dn q d c := match q with
    | 0 => (inferInstance : BI.Storable (upEmb : UEmb _ 𝕄) (bigSep Finset.univ fun i : Fin 16 => tdPts m d (tileOf (Fin.cast nCore_zero c) i)))
  go q d c i := match q with
    | 0 => (inferInstance : BI.Storable (upEmb : UEmb _ 𝕄) (goPts m d (tileOf (Fin.cast nCore_zero c) (Fin.cast nSub_zero i))))
  td q d c i := match q with
    | 0 => (inferInstance : BI.Storable (upEmb : UEmb _ 𝕄) (tdPts m d (tileOf (Fin.cast nCore_zero c) (Fin.cast nSub_zero i))))

/-! ### A tile's own semaphores and buffers -/

section Tile

variable (d : Dev nD) (L : grid0.Coords)

/-- The two semaphores of the tile's copies are among its own, at zero, beside the rest. -/
theorem ownSems0_V :
    (ownSems0 (thr d L) : sProp 𝕄)
      = iprop(semVal (thr d L, .dma cc0_scoped0.sem) 0 ∗ semVal (thr d L, .dma cc0_scoped1.sem) 0
          ∗ bigSep (((ownCells (thr d L)).erase (thr d L, .dma cc0_scoped0.sem)).erase (thr d L, .dma cc0_scoped1.sem)) fun g => semVal g 0) := by
  unfold SparseCore.Cfg.ownSems0
  rw [SparseCore.bigSep_erase' ((mem_ownCells (g := (thr d L, .dma cc0_scoped0.sem))).mpr ⟨rfl, by
      show (SemLoc.dma cc0_scoped0.sem : SemLoc sig).isScoped .scVector = true; decide⟩),
    SparseCore.bigSep_erase' (Finset.mem_erase.mpr ⟨by simp; decide, (mem_ownCells (g := (thr d L, .dma cc0_scoped1.sem))).mpr ⟨rfl, by
      show (SemLoc.dma cc0_scoped1.sem : SemLoc sig).isScoped .scVector = true; decide⟩⟩)]

/-- The two scratch buffers are among the tile's own, at some contents, beside the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A whole buffer held is its whole memref held at what the contents read. -/
theorem owns_sT (f : Buf (Elt F) ((thr d L).loc cc0_scratch0)) :
    ((thr d L).loc cc0_scratch0 ↦{fullShare} f : sProp 𝕄) = owns (thr d L) sT fullShare (f : S512.Idx → Elt F .i32) :=
  (owns_whole (thr d L) cc0_scratch0 fullShare f).symm
theorem owns_sN (f : Buf (Elt F) ((thr d L).loc cc0_scratch1)) :
    ((thr d L).loc cc0_scratch1 ↦{fullShare} f : sProp 𝕄) = owns (thr d L) sN fullShare (f : S1024.Idx → Elt F .f32) :=
  (owns_whole (thr d L) cc0_scratch1 fullShare f).symm

theorem owns_tPiece : (tLoc d ↦[tSet L]{fullShare} m (tLoc d) : sProp 𝕄) = owns (thr d L) (tPiece L tV) fullShare (tileT (F := F) (tgt m d) L) :=
  (Mem.owns_read (thr d L) (tPiece L tV) fullShare (m (tLoc d))).symm
theorem owns_nRow (g : S32x1024.Idx → Elt F .f32) :
    (nLoc d ↦[nSet L]{fullShare} g : sProp 𝕄) = owns (thr d L) (nRow L nV) fullShare ((nRow L nV).view.read (Elt F) g) :=
  (Mem.owns_read (thr d L) (nRow L nV) fullShare g).symm

/-- The task on the tile at `L` of device `d`, from its pieces to its pieces. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ goPts m d L ∗ scopedBufs (thr d L) ∗ scopedSems0 (thr d L) ∗ owes (thr d L) O W)
      ⊢ wp frame (wpE (defs₀ (F := F)) 𝒱₀ (thr d L) none) Set.univ
          (cc0_sc_kernel L tV (Memref.isWhole_whole _) nV (Memref.isWhole_whole _) sT (Memref.isWhole_whole _) sN (Memref.isWhole_whole _) cc0_scoped0 cc0_scoped1)
          fun _ => iprop(tdPts m d L ∗ scopedBufs (thr d L) ∗ scopedSems0 (thr d L) ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  have ht : ∀ j, (tileT (F := F) (tgt m d) L j : BitVec 32).toNat < 1024 := fun j => by
    obtain ⟨i, hi, -⟩ := tileT_apply (F := F) (tgt m d) L j
    rw [hi]; exact Nat.lt_trans (hpre d i) (by decide)
  unfold goPts tdPts
  rw [owns_tPiece, owns_nRow, owns_nRow, read_countsBuf]
  iintro ⟨#Hlv, -, ⟨Ht, Hn⟩, ⟨⟨%fs, Hs⟩, ⟨%fc, Hc⟩, Hbufs⟩, ⟨Hv0, Hv1, Hsems⟩, HO⟩
  ihave Hs := (Entails.of_eq (owns_sT (F := F) d L fs)) $$ Hs
  ihave Hc := (Entails.of_eq (owns_sN (F := F) d L fc)) $$ Hc
  iapply (task d L tV (Memref.isWhole_whole _) nV (Memref.isWhole_whole _) sT (Memref.isWhole_whole _) sN (Memref.isWhole_whole _) cc0_scoped0 cc0_scoped1
    fullShare ht fs fc ((nRow L nV).view.read (Elt F) (m (nLoc d))) O W) $$ [Ht Hn Hs Hc Hv0 Hv1 HO]
  · isplitl [Ht]; · iexact Ht
    isplitl [Hn]; · iexact Hn
    isplitl [Hs]; · iexact Hs
    isplitl [Hc]; · iexact Hc
    isplitl [Hv0]; · iexact Hv0
    isplitl [Hv1]; · iexact Hv1
    isplitl [HO]; · iexact HO
    isplitl
    · iapply ((K (F := F)).mayWait_none (thr := thr d L) (SemLoc.dma cc0_scoped0.sem) hO); iexact Hlv
    · iapply ((K (F := F)).mayWait_none (thr := thr d L) (SemLoc.dma cc0_scoped1.sem) hO); iexact Hlv
  iintro ⟨Ht, Hn, Hs, Hc, Hv0, Hv1, HO⟩
  isplitl [Ht Hn]
  · isplitl [Ht]; · iexact Ht
    iexact Hn
  isplitl [Hs Hc Hbufs]
  · isplitl [Hs]; · iexists _; iapply (Entails.of_eq (owns_sT (F := F) d L _).symm); iexact Hs
    isplitl [Hc]; · iexists _; iapply (Entails.of_eq (owns_sN (F := F) d L _).symm); iexact Hc
    iexact Hbufs
  isplitl [Hv0 Hv1 Hsems]
  · isplitl [Hv0]; · iexact Hv0
    isplitl [Hv1]; · iexact Hv1
    iexact Hsems
  iexists _; isplitr
  swap; · iexact HO
  ipureintro; intro p _
  rcases p.2 with _ | q
  · exact .inr (.inl rfl)
  · exact .inr (.inr (congrArg some (Subsingleton.elim q 0)))

end Tile

theorem defs₀_vector (c : Fin τ.nSC) (s : Fin τ.nSub) :
    defs₀ (F := F) (.scVector c s) 0 ()
      = SparseCore.onTile hcore0 hsub0 (fun c s => cc0_sc_kernel (coordsV c s) tV (Memref.isWhole_whole _) nV (Memref.isWhole_whole _)
          sT (Memref.isWhole_whole _) sN (Memref.isWhole_whole _) cc0_scoped0 cc0_scoped1) ⟨⟩ c s := rfl

set_option maxRecDepth 16384 in
/-- Every tile of the launch runs its task. -/
theorem tileObl (hF : (K (F := F)).Facts) (hpre : InRange m) : (K (F := F)).TileObl (D (F := F)) 𝒱P (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (coordsV ⟨_, hc.1⟩ ⟨_, hc.2⟩) hF hpre O W hO

/-- A SparseCore's payload is its tiles' payloads. -/
theorem vecSplit : (K (F := F)).VecSplit' (P m) 0 := by
  intro d c
  show (bigSep Finset.univ fun i : Fin 16 => goPts m d (tileOf (Fin.cast nCore_zero c) i)) ⊢ |={Set.univ}=> iprop(
      (bigSep Finset.univ fun i : Fin 16 => goPts m d (tileOf (Fin.cast nCore_zero c) i))
      ∗ ((bigSep Finset.univ fun i : Fin 16 => tdPts m d (tileOf (Fin.cast nCore_zero c) i))
          -∗ (bigSep Finset.univ fun i : Fin 16 => tdPts m d (tileOf (Fin.cast nCore_zero c) i))))
  iintro H; imodintro
  isplitl [H]; · iexact H
  iintro H; iexact H

end Cert.KernelIdeal.Run

end
-- ==== Proof.Run.lean ====
/-
  The program's run: from any memory whose class numbers are in range, every execution ends, with the arguments as they were, the result at the combined value, and every
  semaphore at zero.
-/
module

public import proofs.«01_k».proof.Proof.Calls
public import proofs.«01_k».proof.Proof.Tiles

@[expose] public section

noncomputable section

namespace Cert.KernelIdeal.Run

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ### The arrays in the tiles' pieces -/

abbrev tileAt (p : Fin 2 × Fin 16) : grid0.Coords := tileOf p.1 p.2

theorem tSet_disjoint : ∀ p ∈ (Finset.univ : Finset (Fin 2 × Fin 16)), ∀ p' ∈ Finset.univ, p ≠ p' → Disjoint (tSet (tileAt p)) (tSet (tileAt p')) := by
  rintro ⟨c, i⟩ _ ⟨c', i'⟩ _ hne
  refine Finset.disjoint_left.mpr fun j h1 h2 => hne ?_
  rw [mem_tSet] at h1 h2
  have hc : c.val < 2 := c.isLt
  have hc' : c'.val < 2 := c'.isLt
  change 1024 * i.val + 512 * c.val ≤ (j 0).val ∧ (j 0).val < 1024 * i.val + 512 * c.val + 512 at h1
  change 1024 * i'.val + 512 * c'.val ≤ (j 0).val ∧ (j 0).val < 1024 * i'.val + 512 * c'.val + 512 at h2
  exact Prod.ext (Fin.ext (by dsimp only; omega)) (Fin.ext (by dsimp only; omega))

theorem tSet_cover : (Finset.univ : Finset (Fin 2 × Fin 16)).biUnion (fun p => tSet (tileAt p)) = Finset.univ := by
  refine Finset.eq_univ_iff_forall.mpr fun j => ?_
  have hj : (j 0).val < 16384 := (j 0).isLt
  rw [Finset.mem_biUnion]
  refine ⟨(⟨(j 0).val / 512 % 2, by omega⟩, ⟨(j 0).val / 1024, by omega⟩), Finset.mem_univ _, ?_⟩
  rw [mem_tSet]
  show 1024 * ((j 0).val / 1024) + 512 * ((j 0).val / 512 % 2) ≤ (j 0).val ∧ (j 0).val < 1024 * ((j 0).val / 1024) + 512 * ((j 0).val / 512 % 2) + 512
  omega

theorem nSet_disjoint : ∀ p ∈ (Finset.univ : Finset (Fin 2 × Fin 16)), ∀ p' ∈ Finset.univ, p ≠ p' → Disjoint (nSet (tileAt p)) (nSet (tileAt p')) := by
  rintro ⟨c, i⟩ _ ⟨c', i'⟩ _ hne
  refine Finset.disjoint_left.mpr fun j h1 h2 => hne ?_
  rw [mem_nSet] at h1 h2
  have hc : c.val < 2 := c.isLt
  have hc' : c'.val < 2 := c'.isLt
  change (j 0).val = 2 * i.val + c.val at h1
  change (j 0).val = 2 * i'.val + c'.val at h2
  exact Prod.ext (Fin.ext (by dsimp only; omega)) (Fin.ext (by dsimp only; omega))

theorem nSet_cover : (Finset.univ : Finset (Fin 2 × Fin 16)).biUnion (fun p => nSet (tileAt p)) = Finset.univ := by
  refine Finset.eq_univ_iff_forall.mpr fun j => ?_
  have hj : (j 0).val < 32 := (j 0).isLt
  rw [Finset.mem_biUnion]
  refine ⟨(⟨(j 0).val % 2, by omega⟩, ⟨(j 0).val / 2, by omega⟩), Finset.mem_univ _, ?_⟩
  rw [mem_nSet]
  show (j 0).val = 2 * ((j 0).val / 2) + (j 0).val % 2
  omega

theorem t_pieces (d : Dev nD) (f : Buf (Elt F) (tLoc d)) :
    (tLoc d ↦{fullShare} f : sProp 𝕄) = bigSep Finset.univ fun c : Fin 2 => bigSep Finset.univ fun i : Fin 16 => tLoc d ↦[tSet (tileOf c i)]{fullShare} f := by
  rw [show (tLoc d ↦{fullShare} f : sProp 𝕄) = bigSep (Finset.univ : Finset (Fin 2 × Fin 16)) fun p => tLoc d ↦[tSet (tileAt p)]{fullShare} f from by
    rw [← pointsTo_biUnion Finset.univ (ℓ := tLoc d) (fun p => tSet (tileAt p)) tSet_disjoint, tSet_cover]; try rfl]
  exact bigSep_univ_prod _
theorem n_pieces (d : Dev nD) (f : Buf (Elt F) (nLoc d)) :
    (nLoc d ↦{fullShare} f : sProp 𝕄) = bigSep Finset.univ fun c : Fin 2 => bigSep Finset.univ fun i : Fin 16 => nLoc d ↦[nSet (tileOf c i)]{fullShare} f := by
  rw [show (nLoc d ↦{fullShare} f : sProp 𝕄) = bigSep (Finset.univ : Finset (Fin 2 × Fin 16)) fun p => nLoc d ↦[nSet (tileAt p)]{fullShare} f from by
    rw [← pointsTo_biUnion Finset.univ (ℓ := nLoc d) (fun p => nSet (tileAt p)) nSet_disjoint, nSet_cover]; try rfl]
  exact bigSep_univ_prod _

/-- The counts of all tiles, as contents of their array. -/
abbrev countsOf (d : Dev nD) : S32x1024.Idx → Elt F .f32 := (countsBuf (F := F) (tgt m d) : S32x1024.Idx → F .f32)

theorem st_eq (d : Dev nD) : (bigSep Finset.univ fun c : Fin ((K (F := F)).nCore 0) => (P m).st 0 d c)
    = iprop((tLoc d ↦{fullShare} m (tLoc d)) ∗ (nLoc d ↦{fullShare} m (nLoc d))) := by
  rw [t_pieces, n_pieces]
  show (bigSep Finset.univ fun c : Fin 2 => bigSep Finset.univ fun i : Fin 16 => goPts m d (tileOf c i)) = _
  simp only [bigSep_sep']
theorem dn_eq (d : Dev nD) : (bigSep Finset.univ fun c : Fin ((K (F := F)).nCore 0) => (P m).dn 0 d c)
    = iprop((tLoc d ↦{fullShare} m (tLoc d)) ∗ (nLoc d ↦{fullShare} countsOf m d)) := by
  rw [t_pieces, n_pieces]
  show (bigSep Finset.univ fun c : Fin 2 => bigSep Finset.univ fun i : Fin 16 => tdPts m d (tileOf c i)) = _
  simp only [bigSep_sep']

/-! ### The launch's ghost state -/

def u₀ : UU := (initOf (K (F := F)).hsCells (K (F := F)).hsToks, (initOf (Pipeline.cells cfgs cellOf_inj) (Pipeline.launchToks cfgs cellOf_inj), 1))

theorem ownU_split (a : UH) (b : UP × Counters) : (ownU (a, b) : sProp 𝕄)
    ⊢ iprop(BI.own (EH a) ∗ BI.own (((Emb.inr : Emb (UP × Counters) UU).trans (uEmb (nD := nD) (sig := sig) (Ix := HIx 1) (Val := Elt F) (Name := ℕ) (U := UU) (Lvl := ℕ)).toEmb) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

/-- A device's share of the pipelines' ghost state, for each of the two calls. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)
abbrev G (d : Dev nD) : sProp 𝕄 := bigSep Finset.univ fun p : Fin 2 => ghost p d

theorem no_extra : (BI.emp : sProp 𝕄) ⊢ bigSep Finset.univ fun thr : Thread nD τ => bigSep Finset.univ fun q : Fin 1 => (P (F := F) m).x q thr := by
  show (BI.emp : sProp 𝕄) ⊢ bigSep Finset.univ fun thr : Thread nD τ => bigSep Finset.univ fun q : Fin 1 => (BI.emp : sProp 𝕄)
  simp only [bigSep_emp_const]
  exact .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (show (BI.own (((Emb.inr : Emb (UP × Counters) UU).trans (uEmb (nD := nD) (sig := sig) (Ix := HIx 1) (Val := Elt F) (Name := ℕ) (U := UU) (Lvl := ℕ)).toEmb)
      (initOf (Pipeline.cells cfgs cellOf_inj) (Pipeline.launchToks cfgs cellOf_inj), 1)) : sProp 𝕄) ⊢ _ from Pipeline.fund_ghost cfgs EP cellOf_inj) $$ HP with ⟨Hg, Ht⟩
  imodintro
  isplitl [HH]; · iexact HH
  isplitl [Hg Ht]
  · iapply (Entails.of_eq (show iprop((bigSep Finset.univ fun c : Dev nD => bigSep Finset.univ fun p => Pipeline.cellsGhost (cfgs) (EP (F := F)) p c)
          ∗ (bigSep Finset.univ fun c : Dev nD => bigSep Finset.univ fun p => (Pipeline.toksInit cfgs (EP (F := F)) p c : sProp 𝕄)))
        = bigSep Finset.univ fun d : Dev nD => G (F := F) d from by
      rw [← bigSep_sep']; exact bigSep_congr fun d _ => (bigSep_sep' _ _ _).symm))
    isplitl [Hg] <;> iassumption
  iapply (no_extra m); iempintro

/-! ### @main -/

/-- What the two TensorCore calls find: the arrays at launch, the targets as a column, and the tiles' counts. -/
def found : Held F where
  X d := m (xLoc d)
  C d := shapeCast S16384x1 (m (tLoc d) : S16384.Idx → Elt F .i32) shapeCasts_S16384_S16384x1
  N d := countsOf m d
  s0 d := m (sLoc d)
  o0 d := m (oLoc d)

/-- The result: the combined value, as a scalar. -/
def result (d : Dev nD) : S_.Idx → F .f32 := shapeCast S_ ((found m).out d) shapeCasts_S1x1_S_

theorem unscopedBufs_eq (d : Dev nD) : unscopedBufs d (fun b => m ((SparseCore.T d).loc b))
    = iprop((xLoc d ↦{fullShare} m (xLoc d)) ∗ (tLoc d ↦{fullShare} m (tLoc d)) ∗ (nLoc d ↦{fullShare} m (nLoc d)) ∗ (cLoc d ↦{fullShare} m (cLoc d))
        ∗ (sLoc d ↦{fullShare} m (sLoc d)) ∗ (oLoc d ↦{fullShare} m (oLoc d)) ∗ (rLoc d ↦{fullShare} m (rLoc d) : sProp 𝕄)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem held_pair (d : Dev nD) {x y : Ref sig .tc} (hne : x ≠ y) (V : Valuation τ sig (Elt F)) :
    (StableHlo.held (SparseCore.T d) {Proc.devRef .tc x, Proc.devRef .tc y} V : sProp 𝕄)
      = iprop(((SparseCore.T d).loc x ↦{fullShare} (V (Proc.devRef .tc x) : Buf (Elt F) ((SparseCore.T d).loc x)))
        ∗ ((SparseCore.T d).loc y ↦{fullShare} (V (Proc.devRef .tc y) : Buf (Elt F) ((SparseCore.T d).loc y)))) := by
  unfold StableHlo.held
  rw [SparseCore.bigSep_insert' (by rw [Finset.mem_singleton]; exact StableHlo.devRef_ne_of_ne hne), bigSep_singleton]

/-- A reshape between two arrays that are held whole. -/
theorem reshape_step (d : Dev nD) {x y : Ref sig .tc} (hne : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (V : Valuation τ sig (Elt F)) (Φ : PUnit → sProp 𝕄) :
    iprop(boundary (SparseCore.T d) ∗ ((SparseCore.T d).loc x ↦{fullShare} (V (Proc.devRef .tc x) : Buf (Elt F) ((SparseCore.T d).loc x)))
        ∗ ((SparseCore.T d).loc y ↦{fullShare} (V (Proc.devRef .tc y) : Buf (Elt F) ((SparseCore.T d).loc y)))
        ∗ ((boundary (SparseCore.T d) ∗ ((SparseCore.T d).loc x ↦{fullShare} (V (Proc.devRef .tc x) : Buf (Elt F) ((SparseCore.T d).loc x)))
            ∗ ((SparseCore.T d).loc y ↦{fullShare} ((fun i => he ▸ shapeCast y.ty.shape (V (Proc.devRef .tc x)) hn i : y.ty.Contents (Elt F)) : Buf (Elt F) ((SparseCore.T d).loc y))))
          -∗ Φ ⟨⟩))
      ⊢ wp frame (wpE ((K (F := F)).defs (D (F := F))) 𝒱P (SparseCore.T d) none) Set.univ
          (hlo rfl (StableHlo.reshape x y he hn hx hy) fun _ => .ret ⟨⟩) Φ := by
  iintro ⟨Hb, Hx, Hy, Hk⟩
  iapply (StableHlo.wp_hlo_within 𝒱P (SparseCore.T d) none Set.univ (op := StableHlo.reshape x y he hn hx hy)
    (S := {Proc.devRef .tc x, Proc.devRef .tc y}) (Finset.Subset.refl _) (V := V)) $$ [Hb Hx Hy]
  · isplitl [Hb]; · iexact Hb
    iapply (Entails.of_eq (held_pair d hne V).symm)
    isplitl [Hx] <;> iassumption
  iintro ⟨Hb, Hh⟩
  ihave Hh' := (Entails.of_eq (held_pair d hne _)) $$ Hh
  icases Hh' with ⟨Hx, Hy⟩
  rw [wp_ret]
  imodintro
  iapply Hk
  isplitl [Hb]; · iexact Hb
  isplitl [Hx]
  · iapply (Entails.of_eq (by rw [StableHlo.reshape_result_ne _ _ he hn hx hy V hne])) $$ Hx
  iapply (Entails.of_eq (by rw [StableHlo.reshape_result x y he hn hx hy V])) $$ Hy

/-- After the SparseCore call the TensorCore owes nothing. -/
theorem tcSt_idle (d : Dev nD) : ∃ R : sProp 𝕄, (K (F := F)).tcSt EH d 1 = iprop(idle d ∗ R) := by
  unfold SparseCore.Cfg.tcSt idle
  rw [SparseCore.Cfg.Otc_end _ d le_rfl]
  exact ⟨_, rfl⟩

variable (hh : Held F)

/-- A call of one of the two pipelines, among the TensorCore's own labels. -/
abbrev callProg (p : Fin 2) : Prog (TpuEff nD τ sig (Elt F) (ΛP (F := F)) .tc) PUnit := .op (.customCall (Pipeline.entry p) ()) Prog.ret

theorem call1 (κ : GSem nD τ sig → ℕ) (d : Dev nD) (Φ : PUnit → sProp 𝕄) :
    iprop((K (F := F)).ctx EH (P m) κ ∗ boundary (SparseCore.T d) ∗ held1 hh d (hh.s0 d) ∗ idle d ∗ ghost 0 d
        ∗ ((boundary (SparseCore.T d) ∗ held1 hh d (hh.stats d) ∗ idle d) -∗ Φ ⟨⟩))
      ⊢ wp frame (wpE ((K (F := F)).defs (D (F := F))) 𝒱P (SparseCore.T d) none) Set.univ
          (Prog.lift (.customCall (SparseCore.inner (Pipeline.entry 0)) ())) Φ := by
  iintro ⟨#Hctx, Hb, Hh, HO, ⟨Hg, Ht⟩, Hk⟩
  iapply ((K (F := F)).wp_liftProg (D (F := F)) 𝒱P (SparseCore.T d) Set.univ none (callProg 0) Φ)
  iapply (Pipeline.RegionSeg.wp (pcfgs (F := F)) adm (pdats hh) none cellOf_inj EP defs₀ 𝒱₀ (K (F := F)).L (K (F := F)).lev (reg1 hh) d none (by simp) Prog.ret Φ)
    $$ [Hb Hh HO Hg Ht Hk]
  isplitl [Hk]
  · iintro ⟨Hb, Hp⟩
    ihave Hp' := (show (reg1 hh).post d ⊢ iprop(held1 hh d (hh.stats d) ∗ idle d) from .rfl) $$ Hp
    icases Hp' with ⟨Hh, HO⟩
    rw [wp_ret]
    imodintro
    iapply Hk
    isplitl [Hb]; · iexact Hb
    isplitl [Hh] <;> iassumption
  isplitl [Hb]; · iexact Hb
  isplitl [Hh HO]
  · iapply (show iprop(held1 hh d (hh.s0 d) ∗ idle d) ⊢ (reg1 hh).pre d from .rfl)
    isplitl [Hh] <;> iassumption
  isplitr
  · iapply (SparseCore.Cfg.ctx_levAts κ) $$ Hctx
  isplitl [Hg] <;> iassumption

theorem call2 (κ : GSem nD τ sig → ℕ) (d : Dev nD) (Φ : PUnit → sProp 𝕄) :
    iprop((K (F := F)).ctx EH (P m) κ ∗ boundary (SparseCore.T d) ∗ held2 hh d (hh.o0 d) ∗ idle d ∗ ghost 1 d
        ∗ ((boundary (SparseCore.T d) ∗ held2 hh d (hh.out d) ∗ idle d) -∗ Φ ⟨⟩))
      ⊢ wp frame (wpE ((K (F := F)).defs (D (F := F))) 𝒱P (SparseCore.T d) none) Set.univ
          (Prog.lift (.customCall (SparseCore.inner (Pipeline.entry 1)) ())) Φ := by
  iintro ⟨#Hctx, Hb, Hh, HO, ⟨Hg, Ht⟩, Hk⟩
  iapply ((K (F := F)).wp_liftProg (D (F := F)) 𝒱P (SparseCore.T d) Set.univ none (callProg 1) Φ)
  iapply (Pipeline.RegionSeg.wp (pcfgs (F := F)) adm (pdats hh) none cellOf_inj EP defs₀ 𝒱₀ (K (F := F)).L (K (F := F)).lev (reg2 hh) d none (by simp) Prog.ret Φ)
    $$ [Hb Hh HO Hg Ht Hk]
  isplitl [Hk]
  · iintro ⟨Hb, Hp⟩
    ihave Hp' := (show (reg2 hh).post d ⊢ iprop(held2 hh d (hh.out d) ∗ idle d) from .rfl) $$ Hp
    icases Hp' with ⟨Hh, HO⟩
    rw [wp_ret]
    imodintro
    iapply Hk
    isplitl [Hb]; · iexact Hb
    isplitl [Hh] <;> iassumption
  isplitl [Hb]; · iexact Hb
  isplitl [Hh HO]
  · iapply (show iprop(held2 hh d (hh.o0 d) ∗ idle d) ⊢ (reg2 hh).pre d from .rfl)
    isplitl [Hh] <;> iassumption
  isplitr
  · iapply (SparseCore.Cfg.ctx_levAts κ) $$ Hctx
  isplitl [Hg] <;> iassumption

/-- What @main ends with. -/
abbrev FIN (d : Dev nD) : sProp 𝕄 :=
  iprop((xLoc d ↦{fullShare} m (xLoc d)) ∗ (tLoc d ↦{fullShare} m (tLoc d)) ∗ (rLoc d ↦{fullShare} (result m d : S_.Idx → Elt F .f32)))

/-- The arrays with the combined value in its place. -/
def lastV (d : Dev nD) : Valuation τ sig (Elt F) :=
  Function.update (fun b => m (d, b)) (Proc.devRef .tc main_v3) ((found m).out d : S1x1.Idx → Elt F .f32)

theorem lastV_value (d : Dev nD) : lastV m d (Proc.devRef .tc main_v3) = ((found m).out d : S1x1.Idx → Elt F .f32) := Function.update_self ..
theorem lastV_result (d : Dev nD) : lastV m d (Proc.devRef .tc main_v4) = m (rLoc d) := Function.update_of_ne (StableHlo.devRef_ne_of_ne (by decide)) ..

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱P (SparseCore.T d) none) Set.univ (main d)
          fun _ => iprop((K (F := F)).tcSt EH d 1 ∗ FIN m d ∗ (K (F := F)).tcEnd d) := by
  obtain ⟨R, hR⟩ := tcSt_idle (F := F) d
  unfold SparseCore.Cfg.tcRes SparseCore.Cfg.tcEnd
  rw [unscopedBufs_eq, show G (F := F) d = iprop(ghost 0 d ∗ ghost 1 d) from BI.bigSep_fin_two _]
  simp only [main, wp_bind, wp_pure]
  iintro ⟨#Hctx, Hst, ⟨Hb, ⟨Hx, Ht, Hn, Hc, Hs, Ho, Hr⟩, Hts, -⟩, Hg1, Hg2⟩
  iapply ((K (F := F)).wp_run (D (F := F)) 𝒱P (EH := EH) (P := P m) κ d 0) $$ [Hst Hb Hx Ht Hn Hc Hs Ho Hr Hts Hg1 Hg2]
  isplitr; · iexact Hctx
  isplitl [Hst]; · iexact Hst
  isplitl [Ht Hn]
  · iapply (Entails.of_eq (st_eq m d).symm)
    isplitl [Ht] <;> iassumption
  iintro ⟨Hst, Hdn⟩
  ihave Hdn' := (Entails.of_eq (dn_eq m d)) $$ Hdn
  icases Hdn' with ⟨Ht, Hn⟩
  ihave Hst' := (Entails.of_eq (show (K (F := F)).tcSt EH d ((0 : Fin 1).val + 1) = iprop(idle d ∗ R) from hR)) $$ Hst
  icases Hst' with ⟨HO, HR⟩
  iapply (reshape_step d (x := main_arg1) (y := main_v1) (by decide) rfl shapeCasts_S16384_S16384x1 _ _ (fun b => m (d, b)))
  isplitl [Hb]; · iexact Hb
  isplitl [Ht]; · iexact Ht
  isplitl [Hc]; · iexact Hc
  iintro ⟨Hb, Ht, Hc⟩
  iapply (call1 m (found m) κ d)
  isplitr; · iexact Hctx
  isplitl [Hb]; · iexact Hb
  isplitl [Hx Hc Hs]
  · unfold held1
    isplitl [Hx]; · iexact Hx
    isplitl [Hc]; · iexact Hc
    iexact Hs
  isplitl [HO]; · iexact HO
  isplitl [Hg1]; · iexact Hg1
  iintro ⟨Hb, Hh, HO⟩
  unfold held1
  icases Hh with ⟨Hx, Hc, Hs⟩
  iapply (call2 m (found m) κ d)
  isplitr; · iexact Hctx
  isplitl [Hb]; · iexact Hb
  isplitl [Hn Hs Ho]
  · unfold held2
    isplitl [Hn]; · iexact Hn
    isplitl [Hs]; · iexact Hs
    iexact Ho
  isplitl [HO]; · iexact HO
  isplitl [Hg2]; · iexact Hg2
  iintro ⟨Hb, Hh, HO⟩
  unfold held2
  icases Hh with ⟨Hn, Hs, Ho⟩
  iapply (reshape_step d (x := main_v3) (y := main_v4) (by decide) rfl shapeCasts_S1x1_S_ _ _ (lastV m d))
  isplitl [Hb]; · iexact Hb
  isplitl [Ho]; · iapply (Entails.of_eq (by rw [lastV_value])) $$ Ho
  isplitl [Hr]; · iapply (Entails.of_eq (by rw [lastV_result])) $$ Hr
  iintro ⟨Hb, Ho, Hr⟩
  imodintro
  isplitl [HO HR]
  · iapply (Entails.of_eq hR.symm)
    isplitl [HO] <;> iassumption
  isplitr [Hb Hts]
  · isplitl [Hx]; · iexact Hx
    isplitl [Ht]; · iexact Ht
    iapply (Entails.of_eq (by rw [lastV_value]; rfl)) $$ Hr
  isplitl [Hb] <;> iassumption

def fq (d : Dev nD) (s' : Phys nD τ sig (Elt F)) : Prop :=
  s'.mem.mem (xLoc d) = m (xLoc d) ∧ s'.mem.mem (tLoc d) = m (tLoc d) ∧ s'.mem.mem (rLoc d) = (result m d : S_.Idx → Elt F .f32)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := (result m d : S_.Idx → Elt F .f32))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ### The run -/

/-- What every execution ends with. -/
def QC : PUnit × MemSt nD τ sig (Elt F) → Prop := fun r =>
  (∀ d : Dev nD, r.2.mem (xLoc d) = m (xLoc d) ∧ r.2.mem (tLoc d) = m (tLoc d) ∧ r.2.mem (rLoc d) = (result m d : S_.Idx → Elt F .f32)) ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱P) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Run

end
-- ==== Proof.Reference.lean ====
/-
  The reference's run: its host operations in order, and what they leave in the result and in the arguments.
-/
module

public import proofs.«01_k».proof.Proof.Gen.ReferenceIdeal
public import Idealize.ShloMosaic.Lib.StableHlo.Run

@[expose] public section

noncomputable section

namespace Cert.ReferenceIdeal.Run

open Cert.ReferenceIdeal Cert.ReferenceIdeal.Facts₀ Cert.ReferenceIdeal.Facts

open Idealize.ShloMosaic Idealize.ShloMosaic.TcCoe Idealize.ShloMosaic.StableHlo Idealize.SL.Sem

variable {F : FTy → Type} [FloatOps F]

abbrev argmaxOps (arg0 : TRef sig ⟨S16384x1000, .f32⟩) (φ : fn_argmax.Bufs) : List (HloOp τ sig (Elt F)) :=
  [ TRef.nullary φ.v0 (iotaInDim S16384x1000 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S16384x1000_S16384_d1 h_S_ j).1),
    TRef.quaternary arg0 φ.v0 φ.cst φ.c φ.v1_1 (fun x y u v j => (Host.argReduce reducer_argmax_f32_i32 x y u v reducesTo_S16384x1000_S16384_d1 h_S_ j).2) ]

abbrev clipOps (arg0 : TRef sig ⟨S16384, .i32⟩) (arg1 : TRef sig ⟨S_, .i32⟩) (φ : fn_clip.Bufs) : List (HloOp τ sig (Elt F)) :=
  [ TRef.unary arg1 φ.v0 id,
    TRef.unary φ.v0 φ.v1 (broadcastInDim S16384 ![] bcast_S_S16384),
    TRef.binary φ.v1 arg0 φ.v2 maxsi ]

abbrev clip_0Ops (arg0 : TRef sig ⟨S1000, .f32⟩) (arg1 : TRef sig ⟨S_, .f32⟩) (φ : fn_clip_0.Bufs) : List (HloOp τ sig (Elt F)) :=
  [ TRef.unary arg1 φ.v0 id,
    TRef.unary φ.v0 φ.v1 (broadcastInDim S1000 ![] bcast_S_S1000),
    TRef.binary φ.v1 arg0 φ.v2 maximumf ]

abbrev softmaxA (arg0 : TRef sig ⟨S16384x1000, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S16384x1000_S16384_d1 h_S_) ]
abbrev softmaxB (arg0 : TRef sig ⟨S16384x1000, .f32⟩) (φ : fn_log_softmax.Bufs) : List (HloOp τ sig (Elt F)) :=
  [ TRef.nullary φ.cst_0 (constant S_ .f32 0xFF800000#32),
    TRef.unary φ.cst_0 φ.v1 (broadcastInDim S16384 ![] bcast_S_S16384),
    TRef.binary φ.v1 φ.v0 φ.v2 maximumf,
    TRef.unary φ.v2 φ.v3 (broadcastInDim S16384x1 ![0] bcast_S16384_S16384x1_0),
    TRef.unary φ.v3 φ.v4 (broadcastInDim S16384x1000 ![0, 1] bcast_S16384x1_S16384x1000_0_1) ]
abbrev softmaxC (arg0 : TRef sig ⟨S16384x1000, .f32⟩) (φ : fn_log_softmax.Bufs) : List (HloOp τ sig (Elt F)) :=
  [ TRef.binary arg0 φ.v4 φ.v5 subf ]
abbrev softmaxD (arg0 : TRef sig ⟨S16384x1000, .f32⟩) (φ : fn_log_softmax.Bufs) : List (HloOp τ sig (Elt F)) :=
  [ TRef.unary φ.v5 φ.v6 Host.exp,
    TRef.nullary φ.cst_1 (constant S_ .f32 0x00000000#32),
    TRef.binary φ.v6 φ.cst_1 φ.v7 (fun x v => Host.reduceAdd x v reducesTo_S16384x1000_S16384_d1 h_S_) ]
abbrev softmaxE (arg0 : TRef sig ⟨S16384x1000, .f32⟩) (φ : fn_log_softmax.Bufs) : List (HloOp τ sig (Elt F)) :=
  [ TRef.unary φ.v7 φ.v8 (broadcastInDim S16384x1 ![0] bcast_S16384_S16384x1_0),
    TRef.unary φ.v8 φ.v9 Host.log,
    TRef.unary φ.v9 φ.v10 (broadcastInDim S16384x1000 ![0, 1] bcast_S16384x1_S16384x1000_0_1),
    TRef.binary φ.v5 φ.v10 φ.v11 subf ]

/-! @main in stretches, its functions' operations in place of their calls. -/

def seg0 : List (HloOp τ sig (Elt F)) := argmaxOps (.of main_arg0) main_call0
def seg1 : List (HloOp τ sig (Elt F)) :=
  [ binary main_v0 main_arg1 main_v1 (cmpi .eq : (⟨S16384, .i32⟩ : BufTy).Contents (Elt F) → (⟨S16384, .i32⟩ : BufTy).Contents (Elt F) → (⟨S16384, .i1⟩ : BufTy).Contents (Elt F)),
    unary main_v1 main_v2 (uitofp .f32 : (⟨S16384, .i1⟩ : BufTy).Contents (Elt F) → (⟨S16384, .f32⟩ : BufTy).Contents (Elt F)),
    nullary main_cst (constant S_ .f32 0x00000000#32),
    unary main_cst main_v3 (broadcastInDim S1000 ![] bcast_S_S1000 : (⟨S_, .f32⟩ : BufTy).Contents (Elt F) → (⟨S1000, .f32⟩ : BufTy).Contents (Elt F)),
    nullary main_c (constantI S_ 32 0#32) ]
def seg2 : List (HloOp τ sig (Elt F)) := clipOps (.of main_arg1) (.of main_c) main_call1
def seg3 : List (HloOp τ sig (Elt F)) :=
  [ nullary main_c_0 (constantI S_ 32 0#32),
    unary main_c_0 main_v5 (broadcastInDim S16384 ![] bcast_S_S16384 : (⟨S_, .i32⟩ : BufTy).Contents (Elt F) → (⟨S16384, .i32⟩ : BufTy).Contents (Elt F)),
    binary main_v4 main_v5 main_v6 (cmpi .slt : (⟨S16384, .i32⟩ : BufTy).Contents (Elt F) → (⟨S16384, .i32⟩ : BufTy).Contents (Elt F) → (⟨S16384, .i1⟩ : BufTy).Contents (Elt F)),
    nullary main_c_1 (constantI S_ 32 1000#32),
    unary main_c_1 main_v7 (broadcastInDim S16384 ![] bcast_S_S16384 : (⟨S_, .i32⟩ : BufTy).Contents (Elt F) → (⟨S16384, .i32⟩ : BufTy).Contents (Elt F)),
    binary main_v4 main_v7 main_v8 (addi : (⟨S16384, .i32⟩ : BufTy).Contents (Elt F) → (⟨S16384, .i32⟩ : BufTy).Contents (Elt F) → (⟨S16384, .i32⟩ : BufTy).Contents (Elt F)),
    ternary main_v6 main_v8 main_v4 main_v9 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v9 main_v10 (broadcastInDim S16384x1 ![0] bcast_S16384_S16384x1_0 : (⟨S16384, .i32⟩ : BufTy).Contents (Elt F) → (⟨S16384x1, .i32⟩ : BufTy).Contents (Elt F)),
    ternary main_v3 main_v10 main_v2 main_v11 ((fun x i u => Host.scatterAdd scatter_S1000_S16384x1_S16384_n_0_0_1 x i u) : (⟨S1000, .f32⟩ : BufTy).Contents (Elt F) → (⟨S16384x1, .i32⟩ : BufTy).Contents (Elt F) → (⟨S16384, .f32⟩ : BufTy).Contents (Elt F) → (⟨S1000, .f32⟩ : BufTy).Contents (Elt F)) ]
def seg4 : List (HloOp τ sig (Elt F)) :=
  [ nullary main_c_2 (constantI S_ 32 0#32),
    unary main_c_2 main_v12 (broadcastInDim S1000 ![] bcast_S_S1000 : (⟨S_, .i32⟩ : BufTy).Contents (Elt F) → (⟨S1000, .i32⟩ : BufTy).Contents (Elt F)),
    nullary main_c_3 (constantI S_ 32 0#32) ]
def seg5 : List (HloOp τ sig (Elt F)) := clipOps (.of main_arg1) (.of main_c_3) main_call2
def seg6 : List (HloOp τ sig (Elt F)) :=
  [ nullary main_c_4 (constantI S_ 32 0#32),
    unary main_c_4 main_v14 (broadcastInDim S16384 ![] bcast_S_S16384 : (⟨S_, .i32⟩ : BufTy).Contents (Elt F) → (⟨S16384, .i32⟩ : BufTy).Contents (Elt F)),
    binary main_v13 main_v14 main_v15 (cmpi .slt : (⟨S16384, .i32⟩ : BufTy).Contents (Elt F) → (⟨S16384, .i32⟩ : BufTy).Contents (Elt F) → (⟨S16384, .i1⟩ : BufTy).Contents (Elt F)),
    nullary main_c_5 (constantI S_ 32 1000#32),
    unary main_c_5 main_v16 (broadcastInDim S16384 ![] bcast_S_S16384 : (⟨S_, .i32⟩ : BufTy).Contents (Elt F) → (⟨S16384, .i32⟩ : BufTy).Contents (Elt F)),
    binary main_v13 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_v13 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v19 (broadcastInDim S16384x1 ![0] bcast_S16384_S16384x1_0 : (⟨S16384, .i32⟩ : BufTy).Contents (Elt F) → (⟨S16384x1, .i32⟩ : BufTy).Contents (Elt F)),
    nullary main_c_6 (constantI S_ 32 1#32),
    unary main_c_6 main_v20 (broadcastInDim S16384 ![] bcast_S_S16384 : (⟨S_, .i32⟩ : BufTy).Contents (Elt F) → (⟨S16384, .i32⟩ : BufTy).Contents (Elt F)),
    ternary main_v12 main_v19 main_v20 main_v21 ((fun x i u => Host.scatter scatter_S1000_S16384x1_S16384_n_0_0_1 IntOp.addi x i u) : (⟨S1000, .i32⟩ : BufTy).Contents (Elt F) → (⟨S16384x1, .i32⟩ : BufTy).Contents (Elt F) → (⟨S16384, .i32⟩ : BufTy).Contents (Elt F) → (⟨S1000, .i32⟩ : BufTy).Contents (Elt F)),
    unary main_v21 main_v22 (sitofp .f32 : (⟨S1000, .i32⟩ : BufTy).Contents (Elt F) → (⟨S1000, .f32⟩ : BufTy).Contents (Elt F)),
    nullary main_cst_7 (constant S_ .f32 0x3F800000#32) ]
def seg7 : List (HloOp τ sig (Elt F)) := clip_0Ops (.of main_v22) (.of main_cst_7) main_call3
def seg8 : List (HloOp τ sig (Elt F)) :=
  [ binary main_v11 main_v23 main_v24 (Host.divf : (⟨S1000, .f32⟩ : BufTy).Contents (Elt F) → (⟨S1000, .f32⟩ : BufTy).Contents (Elt F) → (⟨S1000, .f32⟩ : BufTy).Contents (Elt F)),
    nullary main_cst_8 (constant S_ .f32 0x3727C5AC#32),
    unary main_cst_8 main_v25 (broadcastInDim S1000 ![] bcast_S_S1000 : (⟨S_, .f32⟩ : BufTy).Contents (Elt F) → (⟨S1000, .f32⟩ : BufTy).Contents (Elt F)),
    binary main_v24 main_v25 main_v26 (addf : (⟨S1000, .f32⟩ : BufTy).Contents (Elt F) → (⟨S1000, .f32⟩ : BufTy).Contents (Elt F) → (⟨S1000, .f32⟩ : BufTy).Contents (Elt F)),
    nullary main_cst_9 (constant S_ .f32 0x3F800000#32),
    unary main_cst_9 main_v27 (broadcastInDim S1000 ![] bcast_S_S1000 : (⟨S_, .f32⟩ : BufTy).Contents (Elt F) → (⟨S1000, .f32⟩ : BufTy).Contents (Elt F)),
    binary main_v27 main_v26 main_v28 (Host.divf : (⟨S1000, .f32⟩ : BufTy).Contents (Elt F) → (⟨S1000, .f32⟩ : BufTy).Contents (Elt F) → (⟨S1000, .f32⟩ : BufTy).Contents (Elt F)) ]
def seg9 : List (HloOp τ sig (Elt F)) :=
  [ nullary main_cst_10 (constant S_ .f32 0x00000000#32),
    binary main_v28 main_cst_10 main_v29 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    unary main_v29 main_v30 (broadcastInDim S1000 ![] bcast_S_S1000 : (⟨S_, .f32⟩ : BufTy).Contents (Elt F) → (⟨S1000, .f32⟩ : BufTy).Contents (Elt F)),
    binary main_v28 main_v30 main_v31 (Host.divf : (⟨S1000, .f32⟩ : BufTy).Contents (Elt F) → (⟨S1000, .f32⟩ : BufTy).Contents (Elt F) → (⟨S1000, .f32⟩ : BufTy).Contents (Elt F)) ]
def seg10 : List (HloOp τ sig (Elt F)) :=
  [ nullary main_cst_11 (constant S_ .f32 0x00000000#32),
    unary main_cst_11 main_v32 (broadcastInDim S16384x1000 ![] bcast_S_S16384x1000 : (⟨S_, .f32⟩ : BufTy).Contents (Elt F) → (⟨S16384x1000, .f32⟩ : BufTy).Contents (Elt F)),
    nullary main_v33 (iotaInDim S16384 32 0),
    nullary main_c_12 (constantI S_ 32 0#32),
    unary main_c_12 main_v34 (broadcastInDim S16384 ![] bcast_S_S16384 : (⟨S_, .i32⟩ : BufTy).Contents (Elt F) → (⟨S16384, .i32⟩ : BufTy).Contents (Elt F)),
    binary main_v33 main_v34 main_v35 (cmpi .slt : (⟨S16384, .i32⟩ : BufTy).Contents (Elt F) → (⟨S16384, .i32⟩ : BufTy).Contents (Elt F) → (⟨S16384, .i1⟩ : BufTy).Contents (Elt F)),
    nullary main_c_13 (constantI S_ 32 16384#32),
    unary main_c_13 main_v36 (broadcastInDim S16384 ![] bcast_S_S16384 : (⟨S_, .i32⟩ : BufTy).Contents (Elt F) → (⟨S16384, .i32⟩ : BufTy).Contents (Elt F)),
    binary main_v33 main_v36 main_v37 (addi : (⟨S16384, .i32⟩ : BufTy).Contents (Elt F) → (⟨S16384, .i32⟩ : BufTy).Contents (Elt F) → (⟨S16384, .i32⟩ : BufTy).Contents (Elt F)),
    ternary main_v35 main_v37 main_v33 main_v38 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_14 (constantI S_ 32 0#32),
    unary main_c_14 main_v39 (broadcastInDim S16384 ![] bcast_S_S16384 : (⟨S_, .i32⟩ : BufTy).Contents (Elt F) → (⟨S16384, .i32⟩ : BufTy).Contents (Elt F)),
    binary main_arg1 main_v39 main_v40 (cmpi .slt : (⟨S16384, .i32⟩ : BufTy).Contents (Elt F) → (⟨S16384, .i32⟩ : BufTy).Contents (Elt F) → (⟨S16384, .i1⟩ : BufTy).Contents (Elt F)),
    nullary main_c_15 (constantI S_ 32 1000#32),
    unary main_c_15 main_v41 (broadcastInDim S16384 ![] bcast_S_S16384 : (⟨S_, .i32⟩ : BufTy).Contents (Elt F) → (⟨S16384, .i32⟩ : BufTy).Contents (Elt F)),
    binary main_arg1 main_v41 main_v42 (addi : (⟨S16384, .i32⟩ : BufTy).Contents (Elt F) → (⟨S16384, .i32⟩ : BufTy).Contents (Elt F) → (⟨S16384, .i32⟩ : BufTy).Contents (Elt F)),
    ternary main_v40 main_v42 main_arg1 main_v43 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v38 main_v44 (broadcastInDim S16384x1 ![0] bcast_S16384_S16384x1_0 : (⟨S16384, .i32⟩ : BufTy).Contents (Elt F) → (⟨S16384x1, .i32⟩ : BufTy).Contents (Elt F)),
    unary main_v43 main_v45 (broadcastInDim S16384x1 ![0] bcast_S16384_S16384x1_0 : (⟨S16384, .i32⟩ : BufTy).Contents (Elt F) → (⟨S16384x1, .i32⟩ : BufTy).Contents (Elt F)),
    binary main_v44 main_v45 main_v46 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) ]
def seg11 : List (HloOp τ sig (Elt F)) :=
  [ nullary main_cst_16 (constant S_ .f32 0x3F666666#32),
    unary main_cst_16 main_v47 (broadcastInDim S16384 ![] bcast_S_S16384 : (⟨S_, .f32⟩ : BufTy).Contents (Elt F) → (⟨S16384, .f32⟩ : BufTy).Contents (Elt F)),
    ternary main_v32 main_v46 main_v47 main_v48 ((fun x i u => Host.scatter scatter_S16384x1000_S16384x2_S16384_n_01_01_1 (fun _ b => b) x i u) : (⟨S16384x1000, .f32⟩ : BufTy).Contents (Elt F) → (⟨S16384x2, .i32⟩ : BufTy).Contents (Elt F) → (⟨S16384, .f32⟩ : BufTy).Contents (Elt F) → (⟨S16384x1000, .f32⟩ : BufTy).Contents (Elt F)) ]
def seg12 : List (HloOp τ sig (Elt F)) :=
  [ nullary main_cst_17 (constant S_ .f32 0x38D1B717#32),
    unary main_cst_17 main_v49 (broadcastInDim S1000 ![] bcast_S_S1000 : (⟨S_, .f32⟩ : BufTy).Contents (Elt F) → (⟨S1000, .f32⟩ : BufTy).Contents (Elt F)),
    binary main_v49 main_v31 main_v50 (mulf : (⟨S1000, .f32⟩ : BufTy).Contents (Elt F) → (⟨S1000, .f32⟩ : BufTy).Contents (Elt F) → (⟨S1000, .f32⟩ : BufTy).Contents (Elt F)),
    unary main_v50 main_v51 (broadcastInDim S1x1000 ![1] bcast_S1000_S1x1000_1 : (⟨S1000, .f32⟩ : BufTy).Contents (Elt F) → (⟨S1x1000, .f32⟩ : BufTy).Contents (Elt F)),
    unary main_v51 main_v52 (broadcastInDim S16384x1000 ![0, 1] bcast_S1x1000_S16384x1000_0_1 : (⟨S1x1000, .f32⟩ : BufTy).Contents (Elt F) → (⟨S16384x1000, .f32⟩ : BufTy).Contents (Elt F)),
    binary main_v48 main_v52 main_v53 (addf : (⟨S16384x1000, .f32⟩ : BufTy).Contents (Elt F) → (⟨S16384x1000, .f32⟩ : BufTy).Contents (Elt F) → (⟨S16384x1000, .f32⟩ : BufTy).Contents (Elt F)) ]
def seg13a : List (HloOp τ sig (Elt F)) := softmaxA (.of main_arg0) main_call4
def seg13b : List (HloOp τ sig (Elt F)) := softmaxB (.of main_arg0) main_call4
def seg13c : List (HloOp τ sig (Elt F)) := softmaxC (.of main_arg0) main_call4
def seg13d : List (HloOp τ sig (Elt F)) := softmaxD (.of main_arg0) main_call4
def seg13e : List (HloOp τ sig (Elt F)) := softmaxE (.of main_arg0) main_call4
def seg14 : List (HloOp τ sig (Elt F)) :=
  [ unary main_v54 main_v55 (Host.negf : (⟨S16384x1000, .f32⟩ : BufTy).Contents (Elt F) → (⟨S16384x1000, .f32⟩ : BufTy).Contents (Elt F)),
    binary main_v55 main_v53 main_v56 (mulf : (⟨S16384x1000, .f32⟩ : BufTy).Contents (Elt F) → (⟨S16384x1000, .f32⟩ : BufTy).Contents (Elt F) → (⟨S16384x1000, .f32⟩ : BufTy).Contents (Elt F)),
    nullary main_cst_18 (constant S_ .f32 0x00000000#32),
    binary main_v56 main_cst_18 main_v57 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_19 (constant S_ .f32 0x00000000#32),
    binary main_v57 main_cst_19 main_v58 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_20 (constant S_ .f32 0x46800000#32),
    binary main_v58 main_cst_20 main_v59 (Host.divf : (⟨S_, .f32⟩ : BufTy).Contents (Elt F) → (⟨S_, .f32⟩ : BufTy).Contents (Elt F) → (⟨S_, .f32⟩ : BufTy).Contents (Elt F)) ]
def ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13a ++ (seg13b ++ (seg13c ++ (seg13d ++ (seg13e ++ (seg14))))))))))))))))))

set_option maxRecDepth 65536 in
set_option maxHeartbeats 4000000 in
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  simp only [ops, seg0, seg1, seg2, seg3, seg4, seg5, seg6, seg7, seg8, seg9, seg10, seg11, seg12, seg13a, seg13b, seg13c, seg13d, seg13e, seg14, argmaxOps, clipOps, clip_0Ops, softmaxA, softmaxB, softmaxC, softmaxD, softmaxE, List.cons_append, List.nil_append, List.forall_cons, List.Forall, nullary_bufs_sub, unary_bufs_sub,
    binary_bufs_sub, ternary_bufs_sub, quaternary_bufs_sub, and_self]

/-! ### What it computes -/

variable (x : S16384x1000.Idx → F .f32) (t : S16384.Idx → BitVec 32)

/-- Each row's first maximum. -/
def argmax : S16384.Idx → BitVec 32 := fun j =>
  (Host.argReduce reducer_argmax_f32_i32 x (iotaInDim S16384x1000 32 1) (constant S_ .f32 0xFF800000#32) (constantI S_ 32 0#32) reducesTo_S16384x1000_S16384_d1 h_S_ j).2
/-- One at a row whose first maximum is its target. -/
def correct : S16384.Idx → F .f32 := uitofp .f32 (cmpi .eq (argmax x) t)
/-- The targets, clipped at zero. -/
def clipped : S16384.Idx → BitVec 32 := maxsi (broadcastInDim S16384 ![] bcast_S_S16384 (constantI S_ 32 0#32)) t
/-- An index counted from the end where it is negative. -/
def wrapped (n : BitVec 32) (u : S16384.Idx → BitVec 32) : S16384.Idx → BitVec 32 :=
  select (cmpi .slt u (broadcastInDim S16384 ![] bcast_S_S16384 (constantI S_ 32 0#32))) (addi u (broadcastInDim S16384 ![] bcast_S_S16384 (constantI S_ 32 n))) u
/-- The clipped targets as a column of indices. -/
def column : S16384x1.Idx → BitVec 32 := broadcastInDim S16384x1 ![0] bcast_S16384_S16384x1_0 (wrapped 1000#32 (clipped t))
/-- Per class, the correct rows. -/
def hits : S1000.Idx → F .f32 :=
  Host.scatterAdd scatter_S1000_S16384x1_S16384_n_0_0_1 (broadcastInDim S1000 ![] bcast_S_S1000 (constant S_ .f32 0x00000000#32)) (column t) (correct x t)
/-- Per class, the rows, as a word. -/
def totals : S1000.Idx → BitVec 32 :=
  Host.scatter scatter_S1000_S16384x1_S16384_n_0_0_1 IntOp.addi (broadcastInDim S1000 ![] bcast_S_S1000 (constantI S_ 32 0#32)) (column t)
    (broadcastInDim S16384 ![] bcast_S_S16384 (constantI S_ 32 1#32))
/-- Per class, the rows, at least one. -/
def atLeastOne : S1000.Idx → F .f32 := maximumf (broadcastInDim S1000 ![] bcast_S_S1000 (constant S_ .f32 0x3F800000#32)) (sitofp .f32 (totals t))
/-- Per class, the inverse of its accuracy. -/
def inverse : S1000.Idx → F .f32 :=
  Host.divf (broadcastInDim S1000 ![] bcast_S_S1000 (constant S_ .f32 0x3F800000#32))
    (addf (Host.divf (hits x t) (atLeastOne t)) (broadcastInDim S1000 ![] bcast_S_S1000 (constant S_ .f32 0x3727C5AC#32)))
/-- The weights: the inverses over their sum. -/
def weights : S1000.Idx → F .f32 :=
  Host.divf (inverse x t) (broadcastInDim S1000 ![] bcast_S_S1000 (Host.reduceAdd (inverse x t) (constant S_ .f32 0x00000000#32) reducesTo_S1000_S_d0 h_S_))
/-- A row's number and its target, as a pair of indices. -/
def pairs : S16384x2.Idx → BitVec 32 :=
  concatenate S16384x2 1 [⟨S16384x1, broadcastInDim S16384x1 ![0] bcast_S16384_S16384x1_0 (wrapped 16384#32 (iotaInDim S16384 32 0))⟩,
    ⟨S16384x1, broadcastInDim S16384x1 ![0] bcast_S16384_S16384x1_0 (wrapped 1000#32 t)⟩] concatenates_S16384x1_S16384x1_S16384x2_d1
/-- The kept share at each row's target. -/
def oneHot : S16384x1000.Idx → F .f32 :=
  Host.scatter scatter_S16384x1000_S16384x2_S16384_n_01_01_1 (fun _ b => b) (broadcastInDim S16384x1000 ![] bcast_S_S16384x1000 (constant S_ .f32 0x00000000#32)) (pairs t)
    (broadcastInDim S16384 ![] bcast_S_S16384 (constant S_ .f32 0x3F666666#32))
/-- The smoothed targets. -/
def smoothed : S16384x1000.Idx → F .f32 :=
  addf (oneHot t) (broadcastInDim S16384x1000 ![0, 1] bcast_S1x1000_S16384x1000_0_1 (broadcastInDim S1x1000 ![1] bcast_S1000_S1x1000_1
    (mulf (broadcastInDim S1000 ![] bcast_S_S1000 (constant S_ .f32 0x38D1B717#32)) (weights x t))))
/-- Each row less its maximum. -/
def shifted : S16384x1000.Idx → F .f32 :=
  subf x (broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x1000_S16384_d1 h_S_))))
/-- The logarithms of the softmax. -/
def logProbs : S16384x1000.Idx → F .f32 :=
  subf (shifted x) (broadcastInDim S16384x1000 ![0, 1] bcast_S16384x1_S16384x1000_0_1 (Host.log (broadcastInDim S16384x1 ![0] bcast_S16384_S16384x1_0
    (Host.reduceAdd (Host.exp (shifted x)) (constant S_ .f32 0x00000000#32) reducesTo_S16384x1000_S16384_d1 h_S_))))
/-- The loss. -/
def loss : S_.Idx → F .f32 :=
  Host.divf (Host.reduceAdd (Host.reduceAdd (mulf (Host.negf (logProbs x)) (smoothed x t)) (constant S_ .f32 0x00000000#32) reducesTo_S16384x1000_S16384_d1 h_S_)
    (constant S_ .f32 0x00000000#32) reducesTo_S16384_S_d0 h_S_) (constant S_ .f32 0x46800000#32)

/-! ### The stretches' results

A stretch leaves at its results what its operations compute of what it found, and every other array as it was. -/

variable (W : Valuation τ sig (Elt F))

theorem out0_v0 : after seg0 W (main_v0 : DevRef τ sig) = argmax (W (main_arg0 : DevRef τ sig)) := by
  simp only [seg0, argmaxOps]
  after_results_simp
  all_goals rfl
theorem out1_v2 : after seg1 W (main_v2 : DevRef τ sig) = (uitofp .f32 (cmpi .eq (W (main_v0 : DevRef τ sig) : S16384.Idx → BitVec 32) (W (main_arg1 : DevRef τ sig))) : S16384.Idx → F .f32) := by
  simp only [seg1]
  after_results_simp
theorem out1_v3 : after seg1 W (main_v3 : DevRef τ sig) = (broadcastInDim S1000 ![] bcast_S_S1000 (constant S_ .f32 0x00000000#32) : S1000.Idx → F .f32) := by
  simp only [seg1]
  after_results_simp
theorem out1_c : after seg1 W (main_c : DevRef τ sig) = constantI S_ 32 0#32 := by
  simp only [seg1]
  after_results_simp
theorem out2_v4 : after seg2 W (main_v4 : DevRef τ sig) = maxsi (broadcastInDim S16384 ![] bcast_S_S16384 (W (main_c : DevRef τ sig) : S_.Idx → BitVec 32)) (W (main_arg1 : DevRef τ sig) : S16384.Idx → BitVec 32) := by
  simp only [seg2, clipOps]
  after_results_simp
  all_goals rfl
theorem out3_v11 : after seg3 W (main_v11 : DevRef τ sig) = (Host.scatterAdd scatter_S1000_S16384x1_S16384_n_0_0_1 (W (main_v3 : DevRef τ sig) : S1000.Idx → F .f32) (broadcastInDim S16384x1 ![0] bcast_S16384_S16384x1_0 (wrapped 1000#32 (W (main_v4 : DevRef τ sig)))) (W (main_v2 : DevRef τ sig) : S16384.Idx → F .f32) : S1000.Idx → F .f32) := by
  simp only [seg3]
  after_results_simp
  all_goals rfl
theorem out4_v12 : after seg4 W (main_v12 : DevRef τ sig) = broadcastInDim S1000 ![] bcast_S_S1000 (constantI S_ 32 0#32) := by
  simp only [seg4]
  after_results_simp
theorem out4_c_3 : after seg4 W (main_c_3 : DevRef τ sig) = constantI S_ 32 0#32 := by
  simp only [seg4]
  after_results_simp
theorem out5_v13 : after seg5 W (main_v13 : DevRef τ sig) = maxsi (broadcastInDim S16384 ![] bcast_S_S16384 (W (main_c_3 : DevRef τ sig) : S_.Idx → BitVec 32)) (W (main_arg1 : DevRef τ sig) : S16384.Idx → BitVec 32) := by
  simp only [seg5, clipOps]
  after_results_simp
  all_goals rfl
theorem out6_v22 : after seg6 W (main_v22 : DevRef τ sig) = (sitofp .f32 (Host.scatter scatter_S1000_S16384x1_S16384_n_0_0_1 IntOp.addi (W (main_v12 : DevRef τ sig) : S1000.Idx → BitVec 32) (broadcastInDim S16384x1 ![0] bcast_S16384_S16384x1_0 (wrapped 1000#32 (W (main_v13 : DevRef τ sig)))) (broadcastInDim S16384 ![] bcast_S_S16384 (constantI S_ 32 1#32))) : S1000.Idx → F .f32) := by
  simp only [seg6]
  after_results_simp
  all_goals rfl
theorem out6_cst_7 : after seg6 W (main_cst_7 : DevRef τ sig) = (constant S_ .f32 0x3F800000#32 : S_.Idx → F .f32) := by
  simp only [seg6]
  after_results_simp
  all_goals rfl
theorem out7_v23 : after seg7 W (main_v23 : DevRef τ sig) = (maximumf (broadcastInDim S1000 ![] bcast_S_S1000 (W (main_cst_7 : DevRef τ sig) : S_.Idx → F .f32)) (W (main_v22 : DevRef τ sig) : S1000.Idx → F .f32) : S1000.Idx → F .f32) := by
  simp only [seg7, clip_0Ops]
  after_results_simp
  all_goals rfl
theorem out8_v28 : after seg8 W (main_v28 : DevRef τ sig) = (Host.divf (broadcastInDim S1000 ![] bcast_S_S1000 (constant S_ .f32 0x3F800000#32)) (addf (Host.divf (W (main_v11 : DevRef τ sig) : S1000.Idx → F .f32) (W (main_v23 : DevRef τ sig))) (broadcastInDim S1000 ![] bcast_S_S1000 (constant S_ .f32 0x3727C5AC#32))) : S1000.Idx → F .f32) := by
  simp only [seg8]
  after_results_simp
theorem out9_v31 : after seg9 W (main_v31 : DevRef τ sig) = (Host.divf (W (main_v28 : DevRef τ sig) : S1000.Idx → F .f32) (broadcastInDim S1000 ![] bcast_S_S1000 (Host.reduceAdd (W (main_v28 : DevRef τ sig) : S1000.Idx → F .f32) (constant S_ .f32 0x00000000#32) reducesTo_S1000_S_d0 h_S_)) : S1000.Idx → F .f32) := by
  simp only [seg9]
  after_results_simp
theorem out10_v32 : after seg10 W (main_v32 : DevRef τ sig) = (broadcastInDim S16384x1000 ![] bcast_S_S16384x1000 (constant S_ .f32 0x00000000#32) : S16384x1000.Idx → F .f32) := by
  simp only [seg10]
  after_results_simp
  all_goals rfl
theorem out10_v46 : after seg10 W (main_v46 : DevRef τ sig) = pairs (W (main_arg1 : DevRef τ sig)) := by
  simp only [seg10]
  after_results_simp
  all_goals rfl
theorem out11_v48 : after seg11 W (main_v48 : DevRef τ sig) = (Host.scatter scatter_S16384x1000_S16384x2_S16384_n_01_01_1 (fun _ b => b) (W (main_v32 : DevRef τ sig) : S16384x1000.Idx → F .f32) (W (main_v46 : DevRef τ sig) : S16384x2.Idx → BitVec 32) (broadcastInDim S16384 ![] bcast_S_S16384 (constant S_ .f32 0x3F666666#32)) : S16384x1000.Idx → F .f32) := by
  simp only [seg11]
  after_results_simp
theorem out12_v53 : after seg12 W (main_v53 : DevRef τ sig) = (addf (W (main_v48 : DevRef τ sig) : S16384x1000.Idx → F .f32) (broadcastInDim S16384x1000 ![0, 1] bcast_S1x1000_S16384x1000_0_1 (broadcastInDim S1x1000 ![1] bcast_S1000_S1x1000_1 (mulf (broadcastInDim S1000 ![] bcast_S_S1000 (constant S_ .f32 0x38D1B717#32)) (W (main_v31 : DevRef τ sig) : S1000.Idx → F .f32)))) : S16384x1000.Idx → F .f32) := by
  simp only [seg12]
  after_results_simp
/-- The row maximum's two operations, for any function in the place of the maximum. -/
theorem maxStep (f : (⟨S16384x1000, .f32⟩ : BufTy).Contents (Elt F) → (⟨S_, .f32⟩ : BufTy).Contents (Elt F) → (⟨S16384, .f32⟩ : BufTy).Contents (Elt F)) (k : (⟨S_, .f32⟩ : BufTy).Contents (Elt F)) :
    after [TRef.nullary main_call4.cst k, TRef.binary (.of main_arg0) main_call4.cst main_call4.v0 f] W (main_call4_v0 : DevRef τ sig) = f (W (main_arg0 : DevRef τ sig)) k := by
  after_results_simp
  all_goals rfl
theorem out13a_call4_v0 : after seg13a W (main_call4_v0 : DevRef τ sig) = (Host.reduce FloatOps.maximumf (W (main_arg0 : DevRef τ sig) : S16384x1000.Idx → F .f32) (constant S_ .f32 0xFF800000#32) reducesTo_S16384x1000_S16384_d1 h_S_ : S16384.Idx → F .f32) := by
  exact maxStep W _ _
theorem out13b_call4_v4 : after seg13b W (main_call4_v4 : DevRef τ sig) = (broadcastInDim S16384x1000 ![0, 1] bcast_S16384x1_S16384x1000_0_1 (broadcastInDim S16384x1 ![0] bcast_S16384_S16384x1_0 (maximumf (broadcastInDim S16384 ![] bcast_S_S16384 (constant S_ .f32 0xFF800000#32)) (W (main_call4_v0 : DevRef τ sig) : S16384.Idx → F .f32))) : S16384x1000.Idx → F .f32) := by
  simp only [seg13b, softmaxB]
  after_results_simp
  all_goals rfl
theorem out13c_call4_v5 : after seg13c W (main_call4_v5 : DevRef τ sig) = (subf (W (main_arg0 : DevRef τ sig) : S16384x1000.Idx → F .f32) (W (main_call4_v4 : DevRef τ sig) : S16384x1000.Idx → F .f32) : S16384x1000.Idx → F .f32) := by
  simp only [seg13c, softmaxC]
  after_results_simp
  all_goals rfl
theorem out13d_call4_v7 : after seg13d W (main_call4_v7 : DevRef τ sig) = (Host.reduceAdd (Host.exp (W (main_call4_v5 : DevRef τ sig) : S16384x1000.Idx → F .f32)) (constant S_ .f32 0x00000000#32) reducesTo_S16384x1000_S16384_d1 h_S_ : S16384.Idx → F .f32) := by
  simp only [seg13d, softmaxD]
  after_results_simp
  all_goals rfl
theorem out13e_v54 : after seg13e W (main_v54 : DevRef τ sig) = (subf (W (main_call4_v5 : DevRef τ sig) : S16384x1000.Idx → F .f32) (broadcastInDim S16384x1000 ![0, 1] bcast_S16384x1_S16384x1000_0_1 (Host.log (broadcastInDim S16384x1 ![0] bcast_S16384_S16384x1_0 (W (main_call4_v7 : DevRef τ sig) : S16384.Idx → F .f32)))) : S16384x1000.Idx → F .f32) := by
  simp only [seg13e, softmaxE]
  after_results_simp
  all_goals rfl
theorem out14_v59 : after seg14 W (main_v59 : DevRef τ sig) = (Host.divf (Host.reduceAdd (Host.reduceAdd (mulf (Host.negf (W (main_v54 : DevRef τ sig) : S16384x1000.Idx → F .f32)) (W (main_v53 : DevRef τ sig) : S16384x1000.Idx → F .f32)) (constant S_ .f32 0x00000000#32) reducesTo_S16384x1000_S16384_d1 h_S_) (constant S_ .f32 0x00000000#32) reducesTo_S16384_S_d0 h_S_) (constant S_ .f32 0x46800000#32) : S_.Idx → F .f32) := by
  simp only [seg14]
  after_results_simp
theorem keep0_arg0 : after seg0 W (main_arg0 : DevRef τ sig) = W (main_arg0 : DevRef τ sig) := by
  simp only [seg0, argmaxOps]
  after_results_simp
theorem keep1_arg0 : after seg1 W (main_arg0 : DevRef τ sig) = W (main_arg0 : DevRef τ sig) := by
  simp only [seg1]
  after_results_simp
theorem keep2_arg0 : after seg2 W (main_arg0 : DevRef τ sig) = W (main_arg0 : DevRef τ sig) := by
  simp only [seg2, clipOps]
  after_results_simp
theorem keep3_arg0 : after seg3 W (main_arg0 : DevRef τ sig) = W (main_arg0 : DevRef τ sig) := by
  simp only [seg3]
  after_results_simp
theorem keep4_arg0 : after seg4 W (main_arg0 : DevRef τ sig) = W (main_arg0 : DevRef τ sig) := by
  simp only [seg4]
  after_results_simp
theorem keep5_arg0 : after seg5 W (main_arg0 : DevRef τ sig) = W (main_arg0 : DevRef τ sig) := by
  simp only [seg5, clipOps]
  after_results_simp
theorem keep6_arg0 : after seg6 W (main_arg0 : DevRef τ sig) = W (main_arg0 : DevRef τ sig) := by
  simp only [seg6]
  after_results_simp
theorem keep7_arg0 : after seg7 W (main_arg0 : DevRef τ sig) = W (main_arg0 : DevRef τ sig) := by
  simp only [seg7, clip_0Ops]
  after_results_simp
theorem keep8_arg0 : after seg8 W (main_arg0 : DevRef τ sig) = W (main_arg0 : DevRef τ sig) := by
  simp only [seg8]
  after_results_simp
theorem keep9_arg0 : after seg9 W (main_arg0 : DevRef τ sig) = W (main_arg0 : DevRef τ sig) := by
  simp only [seg9]
  after_results_simp
theorem keep10_arg0 : after seg10 W (main_arg0 : DevRef τ sig) = W (main_arg0 : DevRef τ sig) := by
  simp only [seg10]
  after_results_simp
theorem keep11_arg0 : after seg11 W (main_arg0 : DevRef τ sig) = W (main_arg0 : DevRef τ sig) := by
  simp only [seg11]
  after_results_simp
theorem keep12_arg0 : after seg12 W (main_arg0 : DevRef τ sig) = W (main_arg0 : DevRef τ sig) := by
  simp only [seg12]
  after_results_simp
theorem keep13a_arg0 : after seg13a W (main_arg0 : DevRef τ sig) = W (main_arg0 : DevRef τ sig) := by
  simp only [seg13a, softmaxA]
  after_results_simp
theorem keep13b_arg0 : after seg13b W (main_arg0 : DevRef τ sig) = W (main_arg0 : DevRef τ sig) := by
  simp only [seg13b, softmaxB]
  after_results_simp
theorem keep13c_arg0 : after seg13c W (main_arg0 : DevRef τ sig) = W (main_arg0 : DevRef τ sig) := by
  simp only [seg13c, softmaxC]
  after_results_simp
theorem keep13d_arg0 : after seg13d W (main_arg0 : DevRef τ sig) = W (main_arg0 : DevRef τ sig) := by
  simp only [seg13d, softmaxD]
  after_results_simp
theorem keep13e_arg0 : after seg13e W (main_arg0 : DevRef τ sig) = W (main_arg0 : DevRef τ sig) := by
  simp only [seg13e, softmaxE]
  after_results_simp
theorem keep14_arg0 : after seg14 W (main_arg0 : DevRef τ sig) = W (main_arg0 : DevRef τ sig) := by
  simp only [seg14]
  after_results_simp
theorem keep0_arg1 : after seg0 W (main_arg1 : DevRef τ sig) = W (main_arg1 : DevRef τ sig) := by
  simp only [seg0, argmaxOps]
  after_results_simp
theorem keep1_arg1 : after seg1 W (main_arg1 : DevRef τ sig) = W (main_arg1 : DevRef τ sig) := by
  simp only [seg1]
  after_results_simp
theorem keep2_arg1 : after seg2 W (main_arg1 : DevRef τ sig) = W (main_arg1 : DevRef τ sig) := by
  simp only [seg2, clipOps]
  after_results_simp
theorem keep3_arg1 : after seg3 W (main_arg1 : DevRef τ sig) = W (main_arg1 : DevRef τ sig) := by
  simp only [seg3]
  after_results_simp
theorem keep4_arg1 : after seg4 W (main_arg1 : DevRef τ sig) = W (main_arg1 : DevRef τ sig) := by
  simp only [seg4]
  after_results_simp
theorem keep5_arg1 : after seg5 W (main_arg1 : DevRef τ sig) = W (main_arg1 : DevRef τ sig) := by
  simp only [seg5, clipOps]
  after_results_simp
theorem keep6_arg1 : after seg6 W (main_arg1 : DevRef τ sig) = W (main_arg1 : DevRef τ sig) := by
  simp only [seg6]
  after_results_simp
theorem keep7_arg1 : after seg7 W (main_arg1 : DevRef τ sig) = W (main_arg1 : DevRef τ sig) := by
  simp only [seg7, clip_0Ops]
  after_results_simp
theorem keep8_arg1 : after seg8 W (main_arg1 : DevRef τ sig) = W (main_arg1 : DevRef τ sig) := by
  simp only [seg8]
  after_results_simp
theorem keep9_arg1 : after seg9 W (main_arg1 : DevRef τ sig) = W (main_arg1 : DevRef τ sig) := by
  simp only [seg9]
  after_results_simp
theorem keep10_arg1 : after seg10 W (main_arg1 : DevRef τ sig) = W (main_arg1 : DevRef τ sig) := by
  simp only [seg10]
  after_results_simp
theorem keep11_arg1 : after seg11 W (main_arg1 : DevRef τ sig) = W (main_arg1 : DevRef τ sig) := by
  simp only [seg11]
  after_results_simp
theorem keep12_arg1 : after seg12 W (main_arg1 : DevRef τ sig) = W (main_arg1 : DevRef τ sig) := by
  simp only [seg12]
  after_results_simp
theorem keep13a_arg1 : after seg13a W (main_arg1 : DevRef τ sig) = W (main_arg1 : DevRef τ sig) := by
  simp only [seg13a, softmaxA]
  after_results_simp
theorem keep13b_arg1 : after seg13b W (main_arg1 : DevRef τ sig) = W (main_arg1 : DevRef τ sig) := by
  simp only [seg13b, softmaxB]
  after_results_simp
theorem keep13c_arg1 : after seg13c W (main_arg1 : DevRef τ sig) = W (main_arg1 : DevRef τ sig) := by
  simp only [seg13c, softmaxC]
  after_results_simp
theorem keep13d_arg1 : after seg13d W (main_arg1 : DevRef τ sig) = W (main_arg1 : DevRef τ sig) := by
  simp only [seg13d, softmaxD]
  after_results_simp
theorem keep13e_arg1 : after seg13e W (main_arg1 : DevRef τ sig) = W (main_arg1 : DevRef τ sig) := by
  simp only [seg13e, softmaxE]
  after_results_simp
theorem keep14_arg1 : after seg14 W (main_arg1 : DevRef τ sig) = W (main_arg1 : DevRef τ sig) := by
  simp only [seg14]
  after_results_simp
theorem keep2_v2 : after seg2 W (main_v2 : DevRef τ sig) = W (main_v2 : DevRef τ sig) := by
  simp only [seg2, clipOps]
  after_results_simp
theorem keep2_v3 : after seg2 W (main_v3 : DevRef τ sig) = W (main_v3 : DevRef τ sig) := by
  simp only [seg2, clipOps]
  after_results_simp
theorem keep4_v11 : after seg4 W (main_v11 : DevRef τ sig) = W (main_v11 : DevRef τ sig) := by
  simp only [seg4]
  after_results_simp
theorem keep5_v11 : after seg5 W (main_v11 : DevRef τ sig) = W (main_v11 : DevRef τ sig) := by
  simp only [seg5, clipOps]
  after_results_simp
theorem keep6_v11 : after seg6 W (main_v11 : DevRef τ sig) = W (main_v11 : DevRef τ sig) := by
  simp only [seg6]
  after_results_simp
theorem keep7_v11 : after seg7 W (main_v11 : DevRef τ sig) = W (main_v11 : DevRef τ sig) := by
  simp only [seg7, clip_0Ops]
  after_results_simp
theorem keep5_v12 : after seg5 W (main_v12 : DevRef τ sig) = W (main_v12 : DevRef τ sig) := by
  simp only [seg5, clipOps]
  after_results_simp
theorem keep10_v31 : after seg10 W (main_v31 : DevRef τ sig) = W (main_v31 : DevRef τ sig) := by
  simp only [seg10]
  after_results_simp
theorem keep11_v31 : after seg11 W (main_v31 : DevRef τ sig) = W (main_v31 : DevRef τ sig) := by
  simp only [seg11]
  after_results_simp
theorem keep13a_v53 : after seg13a W (main_v53 : DevRef τ sig) = W (main_v53 : DevRef τ sig) := by
  simp only [seg13a, softmaxA]
  after_results_simp
theorem keep13b_v53 : after seg13b W (main_v53 : DevRef τ sig) = W (main_v53 : DevRef τ sig) := by
  simp only [seg13b, softmaxB]
  after_results_simp
theorem keep13c_v53 : after seg13c W (main_v53 : DevRef τ sig) = W (main_v53 : DevRef τ sig) := by
  simp only [seg13c, softmaxC]
  after_results_simp
theorem keep13d_v53 : after seg13d W (main_v53 : DevRef τ sig) = W (main_v53 : DevRef τ sig) := by
  simp only [seg13d, softmaxD]
  after_results_simp
theorem keep13e_v53 : after seg13e W (main_v53 : DevRef τ sig) = W (main_v53 : DevRef τ sig) := by
  simp only [seg13e, softmaxE]
  after_results_simp
theorem keep13d_call4_v5 : after seg13d W (main_call4_v5 : DevRef τ sig) = W (main_call4_v5 : DevRef τ sig) := by
  simp only [seg13d, softmaxD]
  after_results_simp

theorem after_join (l l' : List (HloOp τ sig (Elt F))) : after (l ++ l') W = after l' (after l W) := by
  induction l generalizing W with
  | nil => rfl
  | cons op l ih => exact ih _

theorem out_eq (V : Valuation τ sig (Elt F)) :
    after ops V (main_v59 : DevRef τ sig) = loss (V (main_arg0 : DevRef τ sig)) (V (main_arg1 : DevRef τ sig)) := by
  simp only [ops, after_join]
  rw [out14_v59,
    out13e_v54, keep13e_v53, out13d_call4_v7, keep13d_call4_v5, keep13d_v53, out13c_call4_v5, keep13c_v53, out13b_call4_v4, keep13b_arg0, keep13b_v53,
    out13a_call4_v0, keep13a_arg0, keep13a_v53,
    out12_v53, keep12_arg0,
    out11_v48, keep11_v31, keep11_arg0,
    out10_v32, out10_v46, keep10_v31, keep10_arg0,
    out9_v31, keep9_arg1, keep9_arg0,
    out8_v28, keep8_arg1, keep8_arg0,
    out7_v23, keep7_v11, keep7_arg1, keep7_arg0,
    out6_v22, out6_cst_7, keep6_v11, keep6_arg1, keep6_arg0,
    out5_v13, keep5_v12, keep5_v11, keep5_arg1, keep5_arg0,
    out4_v12, out4_c_3, keep4_v11, keep4_arg1, keep4_arg0,
    out3_v11, keep3_arg1, keep3_arg0,
    out2_v4, keep2_v3, keep2_v2, keep2_arg1, keep2_arg0,
    out1_v2, out1_v3, out1_c, keep1_arg1, keep1_arg0,
    out0_v0, keep0_arg1, keep0_arg0]
  simp only [loss, smoothed, oneHot, weights, inverse, atLeastOne, totals, hits, column, clipped, correct, logProbs, shifted]

theorem arg0_eq (V : Valuation τ sig (Elt F)) : after ops V (main_arg0 : DevRef τ sig) = V (main_arg0 : DevRef τ sig) := by
  simp only [ops, after_join]
  rw [keep14_arg0, keep13e_arg0, keep13d_arg0, keep13c_arg0, keep13b_arg0, keep13a_arg0, keep12_arg0, keep11_arg0, keep10_arg0, keep9_arg0, keep8_arg0, keep7_arg0, keep6_arg0, keep5_arg0, keep4_arg0, keep3_arg0, keep2_arg0, keep1_arg0, keep0_arg0]

theorem arg1_eq (V : Valuation τ sig (Elt F)) : after ops V (main_arg1 : DevRef τ sig) = V (main_arg1 : DevRef τ sig) := by
  simp only [ops, after_join]
  rw [keep14_arg1, keep13e_arg1, keep13d_arg1, keep13c_arg1, keep13b_arg1, keep13a_arg1, keep12_arg1, keep11_arg1, keep10_arg1, keep9_arg1, keep8_arg1, keep7_arg1, keep6_arg1, keep5_arg1, keep4_arg1, keep3_arg1, keep2_arg1, keep1_arg1, keep0_arg1]

theorem run_main (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v59) = loss (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1) :=
  (θ_run _ _ _).mono (fun _ h d => ⟨(h d main_v59).trans (out_eq _), (h d main_arg0).trans (arg0_eq _), (h d main_arg1).trans (arg1_eq _)⟩)
    (run_seq scopedRefs_eq scopedSems_eq defs main (fun _ => ops) main_eq (fun _ => ops_sub) m ρ)

end Cert.ReferenceIdeal.Run

end
-- ==== Proof.Math.lean ====
/-
  The loss over the reals: as the reference writes it, one product per row and class, and as the kernel does, from five kinds of sums; and that the two
  are equal.
-/
module

public import Mathlib.Analysis.SpecialFunctions.Log.Basic

@[expose] public section

noncomputable section

namespace Cert.Math

open Finset

variable {n : ℕ} (X : Fin n → Fin 1000 → ℝ) (T : Fin n → Fin 1000) (keep smooth eps : ℝ)

/-- A row's log-sum-exp. -/
def lse (i : Fin n) : ℝ := Real.log (∑ j, Real.exp (X i j))
/-- The rows of a class. -/
def count (c : Fin 1000) : ℝ := ∑ i, if T i = c then 1 else 0
open Classical in
/-- One where the target has its row's largest logit. -/
def good (i : Fin n) : ℝ := if ∀ j, X i j ≤ X i (T i) then 1 else 0
/-- The correct rows of a class. -/
def corr (c : Fin 1000) : ℝ := ∑ i, if T i = c then good X T i else 0
/-- A class's weight, not yet divided by their sum. -/
def weight (c : Fin 1000) : ℝ := 1 / (corr X T c / max (count T c) 1 + eps)

open Classical in
/-- What one row of logits `y` with target `u` adds to the sums: to the first row of sums its logits, its log-sum-exp and its target's logit, to the
second a one at its target, where it is correct. -/
def part (a : Fin 2) (c : ℕ) (y : Fin 1000 → ℝ) (u : Fin 1000) : ℝ :=
  if a = 0 then if h : c < 1000 then y ⟨c, h⟩ else if c = 1000 then Real.log (∑ j, Real.exp (y j)) else if c = 1001 then y u else 0
  else if u.val = c then if ∀ j, y j ≤ y u then 1 else 0 else 0

theorem sum_part_logit (c : Fin 1000) : ∑ i, part 0 c.val (X i) (T i) = ∑ i, X i c := sum_congr rfl fun i _ => by simp [part]
theorem sum_part_lse : ∑ i, part 0 1000 (X i) (T i) = ∑ i, lse X i := sum_congr rfl fun i _ => by simp [part, lse]
theorem sum_part_target : ∑ i, part 0 1001 (X i) (T i) = ∑ i, X i (T i) := sum_congr rfl fun i _ => by simp [part]
theorem sum_part_corr (c : Fin 1000) : ∑ i, part 1 c.val (X i) (T i) = corr X T c :=
  sum_congr rfl fun i _ => by simp [part, good, Fin.ext_iff]

/-- The loss from the sums. -/
def fromSums : ℝ :=
  (((keep + smooth) * ∑ i, lse X i) - keep * (∑ i, X i (T i)) - (smooth * ∑ c, weight X T eps c * ∑ i, X i c) / ∑ c, weight X T eps c) / 16384

/-- The loss row by row. -/
def rowByRow : ℝ :=
  (∑ i, ∑ j, -(X i j - lse X i) * ((if j = T i then keep else 0) + smooth * (weight X T eps j / ∑ c, weight X T eps c))) / 16384

theorem good_nonneg (i : Fin n) : 0 ≤ good X T i := by unfold good; split <;> norm_num

theorem corr_nonneg (c : Fin 1000) : 0 ≤ corr X T c :=
  sum_nonneg fun i _ => by split; exacts [good_nonneg X T i, le_rfl]

theorem denom_pos (heps : 0 < eps) (c : Fin 1000) : 0 < corr X T c / max (count T c) 1 + eps :=
  add_pos_of_nonneg_of_pos (div_nonneg (corr_nonneg X T c) (le_max_of_le_right zero_le_one)) heps

theorem weight_pos (heps : 0 < eps) (c : Fin 1000) : 0 < weight X T eps c := one_div_pos.2 (denom_pos X T eps heps c)

theorem weights_pos (heps : 0 < eps) : 0 < ∑ c, weight X T eps c :=
  sum_pos (fun c _ => weight_pos X T eps heps c) ⟨0, mem_univ _⟩

/-- One row of the loss, opened. -/
theorem row (heps : 0 < eps) (i : Fin n) :
    ∑ j, -(X i j - lse X i) * ((if j = T i then keep else 0) + smooth * (weight X T eps j / ∑ c, weight X T eps c))
      = (keep + smooth) * lse X i - keep * X i (T i) - smooth / (∑ c, weight X T eps c) * ∑ j, weight X T eps j * X i j := by
  have hW := (weights_pos X T eps heps).ne'
  have h1 : ∀ j, -(X i j - lse X i) * ((if j = T i then keep else 0) + smooth * (weight X T eps j / ∑ c, weight X T eps c))
      = (if j = T i then keep * (lse X i - X i j) else 0) + (smooth * lse X i / (∑ c, weight X T eps c) * weight X T eps j
        - smooth / (∑ c, weight X T eps c) * (weight X T eps j * X i j)) := fun j => by split <;> field_simp <;> ring
  rw [sum_congr rfl fun j _ => h1 j, sum_add_distrib, sum_sub_distrib, ← mul_sum, ← mul_sum, sum_ite_eq' univ (T i), if_pos (mem_univ _), div_mul_cancel₀ _ hW]
  ring

theorem fromSums_eq_rowByRow (heps : 0 < eps) : fromSums X T keep smooth eps = rowByRow X T keep smooth eps := by
  unfold fromSums rowByRow
  rw [sum_congr rfl fun i _ => row X T keep smooth eps heps i, sum_sub_distrib, sum_sub_distrib, ← mul_sum, ← mul_sum, ← mul_sum]
  have h2 : ∑ i, ∑ j, weight X T eps j * X i j = ∑ c, weight X T eps c * ∑ i, X i c := by
    rw [sum_comm]; exact sum_congr rfl fun c _ => (mul_sum _ _ _).symm
  rw [h2]
  ring

end Cert.Math

end
-- ==== Proof.Reduce.lean ====
/-
  Sums and maxima over one axis of an array of two axes, at the exact floats, and the casts between a vector and a column or a row.
-/
module

public import proofs.«01_k».proof.Proof.Layout
public import Idealize.ShloMosaic.Lib.Pipeline.Value
public import Idealize.ShloMosaic.Lib.ValueLayout
public import Idealize.ShloMosaic.Lib.ValueLayoutCasts
public import Idealize.ShloMosaic.Lib.IdealHost
public import Idealize.ShloMosaic.Lib.MatmulPlain
public import Idealize.ShloMosaic.PureOps.Ideal.Laws

@[expose] public section

noncomputable section

namespace Cert.Layout

open Idealize.ShloMosaic ValueIdx

variable {n m : Nat}

theorem lift_row (h : (⟨2, ![n, m]⟩ : Shape).Reduces [1] ⟨1, ![n]⟩) (i : Fin n) (j : Fin m) : h.lift (ix1 i) j = ix2 i j := by
  funext a; match a with | ⟨0, _⟩ => rfl | ⟨1, _⟩ => rfl
theorem lift_col (h : (⟨2, ![n, m]⟩ : Shape).Reduces [0] ⟨1, ![m]⟩) (i : Fin n) (j : Fin m) : h.lift (ix1 j) i = ix2 i j := by
  funext a; match a with | ⟨0, _⟩ => rfl | ⟨1, _⟩ => rfl

/-- A row's sum. -/
theorem sum_row (v : FVec Ideal ⟨2, ![n, m]⟩ .f32) (acc : BitVec 32) (h : (⟨2, ![n, m]⟩ : Shape).Reduces [1] ⟨1, ![n]⟩) (hφ : FKind.Formats .f32)
    (hacc : acc = FKind.add.neutral .f32 hφ) (i : Fin n) : multiReduction .add [1] ⟨1, ![n]⟩ v acc h hφ hacc (ix1 i) = ∑ j : Fin m, v (ix2 i j) :=
  (Ideal.multiReduction_add_single v acc h hφ hacc (ix1 i)).trans (Finset.sum_congr rfl fun j _ => congrArg v (lift_row h i j))
/-- A column's sum. -/
theorem sum_col (v : FVec Ideal ⟨2, ![n, m]⟩ .f32) (acc : BitVec 32) (h : (⟨2, ![n, m]⟩ : Shape).Reduces [0] ⟨1, ![m]⟩) (hφ : FKind.Formats .f32)
    (hacc : acc = FKind.add.neutral .f32 hφ) (j : Fin m) : multiReduction .add [0] ⟨1, ![m]⟩ v acc h hφ hacc (ix1 j) = ∑ i : Fin n, v (ix2 i j) :=
  (Ideal.multiReduction_add_single v acc h hφ hacc (ix1 j)).trans (Finset.sum_congr rfl fun i _ => congrArg v (lift_col h i j))

theorem ofBits_bot : Ideal.ofBits .f32 0xFF800000#32 = ⊥ := by simp [Ideal.ofBits, Ideal.ieee]

theorem fold_max_eq_sup {ι : Type} (s : Finset ι) (f : ι → EReal) : s.fold max ⊥ f = s.sup f := rfl

/-- A row's maximum. -/
theorem max_row (v : FVec Ideal ⟨2, ![n, m]⟩ .f32) (h : (⟨2, ![n, m]⟩ : Shape).Reduces [1] ⟨1, ![n]⟩) (hφ : FKind.Formats .f32)
    (hacc : 0xFF800000#32 = FKind.maximumf.neutral .f32 hφ) (i : Fin n) :
    multiReduction .maximumf [1] ⟨1, ![n]⟩ v 0xFF800000#32 h hφ hacc (ix1 i) = Finset.univ.sup fun j : Fin m => (v (ix2 i j) : EReal) := by
  rw [Ideal.multiReduction_maximumf_single, ← fold_max_eq_sup, Ideal.ofBits_def, ofBits_bot]
  exact congrArg (fun f : Fin m → EReal => Finset.univ.fold max ⊥ f) (funext fun j => congrArg v (lift_row h i j))

/-- A row's sum, on the host. -/
theorem host_sum_row (v : FVec Ideal ⟨2, ![n, m]⟩ .f32) (z : FVec Ideal ⟨0, ![]⟩ .f32) (h' : (⟨2, ![n, m]⟩ : Shape).ReducesTo [1] ⟨1, ![n]⟩)
    (h : (⟨2, ![n, m]⟩ : Shape).Reduces [1] ⟨1, ![n]⟩) (hu : 0 < (⟨0, ![]⟩ : Shape).numel) (i : Fin n) :
    Host.reduceAdd v z h' hu (ix1 i) = z ix0 + ∑ j : Fin m, v (ix2 i j) := by
  refine (Ideal.hostReduceAdd_single h' h v _ (ix1 i)).trans ?_
  rw [eq_ix0 (Shape.Idx.first hu)]
  exact congrArg _ (Finset.sum_congr rfl fun j _ => congrArg v (lift_row h i j))

/-- A vector's sum, on the host. -/
theorem host_sum (v : FVec Ideal ⟨1, ![n]⟩ .f32) (z : FVec Ideal ⟨0, ![]⟩ .f32) (h' : (⟨1, ![n]⟩ : Shape).ReducesTo [0] ⟨0, ![]⟩)
    (hu : 0 < (⟨0, ![]⟩ : Shape).numel) : Host.reduceAdd v z h' hu ix0 = z ix0 + ∑ i : Fin n, v (ix1 i) := by
  refine (Ideal.hostReduceAdd_total h' (fun b => b.elim0) v _ ix0).trans ?_
  rw [eq_ix0 (Shape.Idx.first hu)]
  refine congrArg _ ?_
  exact Fintype.sum_equiv ⟨fun i => i 0, fun i => ix1 i, fun i => (eq_ix1 i).symm, fun _ => rfl⟩ _ _ fun i => congrArg v (eq_ix1 i)

/-- A row's maximum, on the host. -/
theorem host_max_row (v : FVec Ideal ⟨2, ![n, m]⟩ .f32) (h' : (⟨2, ![n, m]⟩ : Shape).ReducesTo [1] ⟨1, ![n]⟩)
    (h : (⟨2, ![n, m]⟩ : Shape).Reduces [1] ⟨1, ![n]⟩) (hu : 0 < (⟨0, ![]⟩ : Shape).numel) (i : Fin n) :
    Host.reduce FloatOps.maximumf v (constant (F := Ideal) ⟨0, ![]⟩ .f32 0xFF800000#32) h' hu (ix1 i) = Finset.univ.sup fun j : Fin m => (v (ix2 i j) : EReal) := by
  rw [Host.reduce_eq_fold, ← fold_max_eq_sup]
  have e : (constant (F := Ideal) ⟨0, ![]⟩ .f32 0xFF800000#32 : FVec Ideal ⟨0, ![]⟩ .f32) (Shape.Idx.first hu) = ⊥ := ofBits_bot
  rw [e]
  have hd : (Finset.univ.filter fun k => h'.drop k = ix1 i) = Finset.univ.filter fun k => h.drop k = ix1 i := by
    rw [Shape.ReducesTo.drop_eq_drop h' h]
  rw [hd, h.fold_filter_drop_single]
  exact congrArg (fun f : Fin m → EReal => Finset.univ.fold max ⊥ f) (funext fun j => congrArg v (lift_row h i j))

variable {α : Type}

/-- A column spread over the rows. -/
theorem spread_col (y : (⟨2, ![n, 1]⟩ : Shape).Idx → α) (h : (⟨2, ![n, 1]⟩ : Shape).Broadcasts ⟨2, ![n, m]⟩) (i : Fin n) (j : Fin m) :
    broadcastTo ⟨2, ![n, m]⟩ y h (ix2 i j) = y (ix2 i 0) := by
  refine broadcastTo_apply _ _ _ _ fun a => ?_
  match a with
  | ⟨0, _⟩ =>
    show i.val = if n = 1 then 0 else i.val
    split
    · have := i.isLt; omega
    · rfl
  | ⟨1, _⟩ => rfl

end Cert.Layout

end
-- ==== Proof.Reals.lean ====
/-
  Real numbers among the exact floats: sums, maxima, quotients, comparisons and the literals of the two programs.
-/
module

public import proofs.«01_k».proof.Proof.Reduce
public import Idealize.ShloMosaic.Lib.Affine
public import Idealize.ShloMosaic.Lib.WordCmp

@[expose] public section

noncomputable section

namespace Cert.Reals

open Idealize.ShloMosaic Finset

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem sum_of {ι : Type} {s : Finset ι} {g : ι → EReal} {f : ι → ℝ} (h : ∀ i ∈ s, g i = f i) : ∑ i ∈ s, g i = ((∑ i ∈ s, f i : ℝ) : EReal) :=
  (sum_congr rfl h).trans (sum_coe s f)

/-- A choice between a number and zero is the number or zero. -/
theorem ite_coe (p : Prop) [Decidable p] (a b : ℝ) : (if p then (a : EReal) else (b : EReal)) = ((if p then a else b : ℝ) : EReal) := by split <;> rfl

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem log_coe_pos {r : ℝ} (h : 0 < r) : Ideal.log (r : EReal) = (Real.log r : EReal) := by
  rw [Ideal.log_coe, if_neg (not_le.mpr h)]

theorem max_coe (x y : ℝ) : max (x : EReal) (y : EReal) = ((max x y : ℝ) : EReal) := (EReal.coe_strictMono.monotone.map_max).symm

/-- A row's entry is the row's maximum exactly when no entry of the row exceeds it. -/
theorem eq_sup_iff {n : ℕ} (f : Fin n → ℝ) (u : Fin n) : (f u : EReal) = univ.sup (fun j => (f j : EReal)) ↔ ∀ j, f j ≤ f u := by
  constructor
  · intro h j
    have := Finset.le_sup (f := fun j => (f j : EReal)) (mem_univ j)
    rw [← h] at this; exact_mod_cast this
  · intro h
    exact le_antisymm (Finset.le_sup (f := fun j => (f j : EReal)) (mem_univ u)) (Finset.sup_le fun j _ => by exact_mod_cast h j)

/-- The comparison's one bit, read as a number. -/
theorem flag_word (p : Prop) [Decidable p] : (((BitVec.setWidth 32 (BitVec.ofBool (decide p))).toInt : ℝ) : EReal) = ((if p then 1 else 0 : ℝ) : EReal) := by
  by_cases h : p
  · simp [h]
  · simp [h]

/-- Equality of exact floats, decided by any equivalent condition. -/
theorem cmp_eq (a b : EReal) (p : Prop) [Decidable p] (h : a = b ↔ p) : FloatOps.cmpf (F := Ideal) (φ := .f32) .oeq a b = BitVec.ofBool (decide p) := by
  show BitVec.ofBool (@decide (a = b) _) = _
  congr 1
  exact decide_eq_decide.mpr h

theorem word_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A choice by an equality of words below `2 ^ 32`. -/
theorem select_word {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · rw [if_pos h, IntOp.cmpi_eq.mpr ((word_eq ha hb).mpr h)]; rfl
  · rw [if_neg h, show IntOp.cmpi .eq (BitVec.ofNat 32 a) (BitVec.ofNat 32 b) = 0#1 from ?_]; · rfl
    by_contra h'
    exact h ((word_eq ha hb).mp (IntOp.cmpi_eq.mp (by revert h'; generalize IntOp.cmpi .eq (BitVec.ofNat 32 a) (BitVec.ofNat 32 b) = w; revert w; decide)))

/-- A choice by an order of words below `2 ^ 31`. -/
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b
  · rw [if_pos h, decide_eq_true h]; rfl
  · rw [if_neg h, decide_eq_false h]; rfl

/-- Lanes past the first thousand hold zero: the sum is over the first thousand. -/
theorem sum_thousand {g : Fin 1024 → EReal} {f : Fin 1000 → ℝ} (h : ∀ c : Fin 1000, g ⟨c.val, c.isLt.trans (by decide)⟩ = f c)
    (h0 : ∀ c : Fin 1024, ¬c.val < 1000 → g c = 0) : ∑ c, g c = ((∑ c, f c : ℝ) : EReal) := by
  have e := Fin.sum_univ_add (a := 1000) (b := 24) g
  rw [show ∑ c, g c = ∑ i : Fin (1000 + 24), g i from rfl, e, sum_eq_zero (f := fun i : Fin 24 => g (Fin.natAdd 1000 i)) fun i _ => h0 _ (by
    show ¬1000 + i.val < 1000; omega), add_zero]
  exact sum_of fun c _ => h c

/-- One lane is chosen from a sum. -/
theorem sum_lane {n : ℕ} (g : Fin n → EReal) (k : Fin n) : ∑ c, (if c.val = k.val then g c else 0) = g k := by
  rw [sum_eq_single k]
  · rw [if_pos rfl]
  · intro b _ hb; rw [if_neg fun h => hb (Fin.ext h)]
  · intro h; exact absurd (mem_univ k) h

/-! ### The literals -/

theorem lit_zero : Ideal.ofBits .f32 0x00000000#32 = ((0 : ℝ) : EReal) := by simp [Ideal.ofBits, Ideal.ieee, -EReal.coe_mul]
theorem lit_one : Ideal.ofBits .f32 0x3F800000#32 = ((1 : ℝ) : EReal) := by simp [Ideal.ofBits, Ideal.ieee, -EReal.coe_mul]; norm_num
theorem lit_rows : Ideal.ofBits .f32 0x46800000#32 = ((16384 : ℝ) : EReal) := by simp [Ideal.ofBits, Ideal.ieee, -EReal.coe_mul]; norm_num

/-- The weight of a row's own class, 0.9 as a float. -/
def keep : ℝ := 15099494 / 16777216
/-- The weight spread over the classes, 0.0001 as a float. -/
def smooth : ℝ := 13743895 / 137438953472
/-- The guard of the quotients, 0.00001 as a float. -/
def eps : ℝ := 10995116 / 1099511627776

theorem lit_keep : Ideal.ofBits .f32 0x3F666666#32 = ((keep : ℝ) : EReal) := by
  simp [Ideal.ofBits, Ideal.ieee, -EReal.coe_mul, keep]; norm_num
theorem lit_smooth : Ideal.ofBits .f32 0x38D1B717#32 = ((smooth : ℝ) : EReal) := by
  simp [Ideal.ofBits, Ideal.ieee, -EReal.coe_mul, smooth]; norm_num
theorem lit_eps : Ideal.ofBits .f32 0x3727C5AC#32 = ((eps : ℝ) : EReal) := by
  simp [Ideal.ofBits, Ideal.ieee, -EReal.coe_mul, eps]; norm_num
theorem eps_pos : 0 < eps := by norm_num [eps]
theorem keep_add_smooth : keep + smooth = 123708798743 / 137438953472 := by norm_num [keep, smooth]

end Cert.Reals

end
-- ==== Proof.Window.lean ====
/-
  A stretch of one row of an array of two axes, read and written.
-/
module

public import proofs.«01_k».proof.Proof.Layout
public import Idealize.ShloMosaic.Lib.VecWindow

@[expose] public section

namespace Cert.Layout

open Idealize.ShloMosaic ValueIdx

variable {α : Type} {n m : Nat}

/-- The first `W` elements of row `r`. -/
theorem window_row (x : (⟨2, ![n, m]⟩ : Shape).Idx → α) (r W : ℕ) (inb : ∀ a, (![r, 0] : Fin 2 → ℕ) a + (![1, W] : Fin 2 → ℕ) a ≤ (⟨2, ![n, m]⟩ : Shape).size a)
    (hr : r < n) (j : Fin W) (hj : j.val < m) :
    VecWindow.window x ![r, 0] ![1, W] inb (ix2 (n0 := 1) (n1 := W) 0 j) = x (ix2 ⟨r, hr⟩ ⟨j.val, hj⟩) := by
  refine congrArg x (funext fun a => Fin.ext ?_)
  match a with
  | ⟨0, _⟩ => show r + 1 * 0 = r; omega
  | ⟨1, _⟩ => show 0 + 1 * j.val = j.val; omega

/-- An array with the first `W` elements of row `r` written. -/
theorem put_row (x : (⟨2, ![n, m]⟩ : Shape).Idx → α) (r W : ℕ) (w : (⟨2, ![1, W]⟩ : Shape).Idx → α) (i : Fin n) (j : Fin m) :
    VecWindow.put x ![r, 0] ![1, W] w (ix2 i j) = if h : i.val = r ∧ j.val < W then w (ix2 0 ⟨j.val, h.2⟩) else x (ix2 i j) := by
  unfold VecWindow.put
  by_cases h : i.val = r ∧ j.val < W
  · have h' : ∀ a, (![r, 0] : Fin 2 → ℕ) a ≤ (ix2 i j a).val ∧ (ix2 i j a).val < (![r, 0] : Fin 2 → ℕ) a + (![1, W] : Fin 2 → ℕ) a := fun a => by
      match a with
      | ⟨0, _⟩ => show r ≤ i.val ∧ i.val < r + 1; omega
      | ⟨1, _⟩ => show 0 ≤ j.val ∧ j.val < 0 + W; omega
    rw [dif_pos h, dif_pos h']
    refine congrArg w (funext fun a => Fin.ext ?_)
    match a with
    | ⟨0, _⟩ => show i.val - r = 0; omega
    | ⟨1, _⟩ => show j.val - 0 = j.val; omega
  · rw [dif_neg h, dif_neg fun h' => h ⟨?_, ?_⟩]
    · have := h' 0; change r ≤ i.val ∧ i.val < r + 1 at this; omega
    · have := h' 1; change 0 ≤ j.val ∧ j.val < 0 + W at this; omega

end Cert.Layout

end
-- ==== Proof.DenseValue.lean ====
/-
  The dense call's values at the exact floats: from finite logits and class numbers, each step adds the block's rows to the sums.
-/
module

public import proofs.«01_k».proof.Proof.Regions
public import proofs.«01_k».proof.Proof.Math
public import proofs.«01_k».proof.Proof.Reals
public import proofs.«01_k».proof.Proof.Window
public import Idealize.ShloMosaic.Lib.Pipeline.ValueKit.Acc

@[expose] public section

noncomputable section

namespace Cert.KernelIdeal.Run

open Cert.KernelIdeal Cert.KernelIdeal.Gen
open Idealize.ShloMosaic ValueIdx Cert.Layout Cert.Reals Cert.Math

section Block

variable (x : S2048x1000.Idx → Ideal .f32) (t : S2048x1.Idx → BitVec 32) (Y : Fin 2048 → Fin 1000 → ℝ) (U : Fin 2048 → Fin 1000)
  (hx : ∀ i j, x (ix2 i j) = (Y i j : EReal)) (ht : ∀ i, t (ix2 i 0) = BitVec.ofNat 32 (U i).val)

include ht in
/-- The mask of the targets chooses at a row's target. -/
theorem select_target {α : Type} (a b : S2048x1000.Idx → α) (i : Fin 2048) (j : Fin 1000) :
    select (k1_pay5 (F := Ideal) t) a b (ix2 i j) = if j = U i then a (ix2 i j) else b (ix2 i j) := by
  have e : k1_pay5 (F := Ideal) t (ix2 i j) = IntOp.cmpi .eq (BitVec.ofNat 32 j.val) (BitVec.ofNat 32 (U i).val) := by
    unfold k1_pay5
    show IntOp.cmpi .eq (iota .tc S2048x1000 32 [1] _ (ix2 i j)) (broadcastTo S2048x1000 (shapeCast S2048x1 t _) _ (ix2 i j)) = _
    rw [spread_col, shapeCast_self, iota_single_apply, ht]
  rw [select_apply, e, select_word (by have := j.isLt; omega) (by have := (U i).isLt; omega)]
  by_cases h : j = U i
  · rw [if_pos h, if_pos (congrArg Fin.val h)]
  · rw [if_neg h, if_neg fun h' => h (Fin.ext h')]

include hx ht in
/-- A row's target logit. -/
theorem pay6_at (i : Fin 2048) (u : Fin 1) : k1_pay6 (F := Ideal) x t (ix2 i u) = (Y i (U i) : EReal) := by
  unfold k1_pay6
  show shapeCast S2048x1 _ _ (ix2 i u) = _
  rw [shapeCast_a_a1_apply]
  refine (sum_row _ _ _ _ _ _).trans ?_
  rw [sum_of (f := fun j => if j = U i then Y i j else 0) fun j _ => ?_, Finset.sum_ite_eq' Finset.univ (U i), if_pos (Finset.mem_univ _)]
  rw [select_target t U ht, hx, broadcast_apply, ← ite_coe, ← lit_zero]; rfl

include hx ht in
/-- The correct rows of a class. -/
theorem pay7_at (j : Fin 1000) (u : Fin 1) : k1_pay7 (F := Ideal) x t (ix2 u j) = ((∑ i, part 1 j.val (Y i) (U i) : ℝ) : EReal) := by
  unfold k1_pay7
  show shapeCast S1x1000 _ _ (ix2 u j) = _
  rw [shapeCast_a_1a_apply]
  refine (sum_col _ _ _ _ _ _).trans ?_
  refine sum_of fun i _ => ?_
  rw [select_target t U ht, spread_col, shapeCast_self, broadcast_apply, sitofp_apply, extui_apply, cmpf_apply, pay6_at x t Y U hx ht, shapeCast_a_a1_apply, show multiReduction .maximumf [1] S2048 x 0xFF800000#32 reduces_S2048x1000_S2048 (.inl rfl) rfl (ix1 i) = _ from max_row _ _ _ _ _]
  classical
  have e : FloatOps.cmpf (F := Ideal) (φ := .f32) .oeq (Y i (U i) : EReal) (Finset.univ.sup fun j => (x (ix2 i j) : EReal))
      = BitVec.ofBool (decide (∀ j, Y i j ≤ Y i (U i))) := by
    simp only [hx]
    exact cmp_eq _ _ _ (eq_sup_iff (Y i) (U i))
  rw [e]
  show (if j = U i then ((((BitVec.setWidth 32 (BitVec.ofBool (decide (∀ j, Y i j ≤ Y i (U i))))).toInt : ℝ) : EReal)) else Ideal.ofBits .f32 0x00000000#32) = _
  rw [flag_word, lit_zero, ite_coe]
  unfold part
  rw [if_neg (show ¬(1 : Fin 2) = 0 by decide)]
  by_cases h : j = U i
  · subst h; simp
  · rw [if_neg h, if_neg fun h' => h (Fin.ext h'.symm)]

include hx in
/-- A block's column sums. -/
theorem pay8_at (j : Fin 1000) (u : Fin 1) : k1_pay8 (F := Ideal) x (ix2 u j) = ((∑ i, Y i j : ℝ) : EReal) := by
  unfold k1_pay8
  show FloatOps.matmul (DotDims.plain 1 2048 1000) none (broadcast S1x2048 (Ideal.ofBits .f32 0x3F800000#32)) x (constant S1x1000 .f32 0x00000000#32) (ix2 u j) = _
  rw [Ideal.matmul_plain_apply, constant_apply, lit_zero]
  rw [sum_of (f := fun i => Y i j) fun i _ => ?_]
  · rw [← EReal.coe_add, zero_add]
  · rw [broadcast_apply, lit_one, hx, ← EReal.coe_mul, one_mul]

include hx ht in
/-- A block's sum of target logits. -/
theorem pay9_at (u v : Fin 1) : k1_pay9 (F := Ideal) x t (ix2 u v) = ((∑ i, Y i (U i) : ℝ) : EReal) := by
  unfold k1_pay9
  show shapeCast S1x1 _ _ (ix2 u v) = _
  rw [shapeCast_a_1a_apply]
  refine (sum_col _ _ _ _ _ _).trans ?_
  exact sum_of fun i _ => pay6_at x t Y U hx ht i v

/-- A scalar spread over a row. -/
theorem spread_one {α : Type} {m : ℕ} (y : (⟨2, ![1, 1]⟩ : Shape).Idx → α) (h : (⟨2, ![1, 1]⟩ : Shape).Broadcasts ⟨2, ![1, m]⟩) (u : Fin 1) (c : Fin m) :
    broadcastTo ⟨2, ![1, m]⟩ y h (ix2 u c) = y (ix2 u 0) := spread_col y h u c

include hx in
/-- A block's sum of log-sum-exps. -/
theorem pay11_at (u : Fin 1) (c : Fin 1024) : k1_pay11 (F := Ideal) x (ix2 u c) = ((∑ i, lse Y i : ℝ) : EReal) := by
  unfold k1_pay11
  show broadcastTo S1x1024 _ _ (ix2 u c) = _
  rw [spread_one, shapeCast_self, shapeCast_a_1a_apply]
  refine (sum_col _ _ _ _ _ _).trans ?_
  refine sum_of fun i _ => ?_
  show Ideal.log (FloatOps.matmul (DotDims.plain 2048 1000 1) none (exp x) (broadcast S1000x1 (Ideal.ofBits .f32 0x3F800000#32)) (constant S2048x1 .f32 0x00000000#32) (ix2 i 0)) = _
  rw [Ideal.matmul_plain_apply, constant_apply, lit_zero]
  rw [sum_of (f := fun j => Real.exp (Y i j)) fun j _ => ?_]
  · rw [← EReal.coe_add, zero_add, log_coe_pos (Finset.sum_pos (fun j _ => Real.exp_pos _) ⟨0, Finset.mem_univ _⟩)]; rfl
  · rw [broadcast_apply, lit_one]
    show Ideal.exp (x (ix2 i j)) * _ = _
    rw [hx, Ideal.exp_coe, ← EReal.coe_mul, mul_one]

include hx ht in
/-- A step adds each row's part. -/
theorem denseStep_at (s : S2x1024.Idx → Ideal .f32) (a : Fin 2) (c : Fin 1024) :
    denseStep x t s (ix2 a c) = s (ix2 a c) + ((∑ i, part a c.val (Y i) (U i) : ℝ) : EReal) := by
  unfold denseStep
  refine (put_row (n := 2) (m := 1024) _ 1 1000 _ a c).trans ?_
  match a with
  | 1 =>
    by_cases hc : c.val < 1000
    · rw [dif_pos ⟨rfl, hc⟩]
      unfold k1_pay3
      show shapeCast S1x1000 _ _ (ix2 0 ⟨c.val, hc⟩) + k1_pay7 (F := Ideal) x t (ix2 0 ⟨c.val, hc⟩) = _
      rw [shapeCast_self, pay7_at x t Y U hx ht]
      refine congrArg (· + _) ?_
      refine (window_row (n := 2) (m := 1024) _ 1 1000 _ (by decide) ⟨c.val, hc⟩ c.isLt).trans ?_
      refine (put_row (n := 2) (m := 1024) _ 0 1024 _ 1 c).trans ?_
      rw [dif_neg fun h => absurd h.1 (by decide)]
      refine (put_row (n := 2) (m := 1024) _ 0 1000 _ 1 c).trans ?_
      rw [dif_neg fun h => absurd h.1 (by decide)]
    · rw [dif_neg fun h => hc h.2]
      refine (put_row (n := 2) (m := 1024) _ 0 1024 _ 1 c).trans ?_
      rw [dif_neg fun h => absurd h.1 (by decide)]
      refine (put_row (n := 2) (m := 1024) _ 0 1000 _ 1 c).trans ?_
      rw [dif_neg fun h => absurd h.1 (by decide)]
      rw [Finset.sum_eq_zero fun i _ => ?_]
      · rw [EReal.coe_zero, add_zero]
      · unfold part
        rw [if_neg (show ¬(1 : Fin 2) = 0 by decide), if_neg fun h : (U i).val = c.val => hc (h ▸ (U i).isLt)]
  | 0 =>
    rw [dif_neg fun h => absurd h.1 (by decide)]
    refine (put_row (n := 2) (m := 1024) _ 0 1024 _ 0 c).trans ?_
    rw [dif_pos ⟨rfl, c.isLt⟩]
    unfold k1_pay2
    show shapeCast S1x1024 _ _ (ix2 0 c) + (select k1_pay10 (k1_pay11 (F := Ideal) x) (broadcast S1x1024 (Ideal.ofBits .f32 0x00000000#32)) (ix2 0 c)
      + select (cmpi .eq (iota .tc S1x1024 32 [1] iota_S1x1024_d1_w32) (broadcast S1x1024 1001#32))
          (broadcastTo S1x1024 (shapeCast S1x1 (k1_pay9 (F := Ideal) x t) _) _) (broadcast S1x1024 (Ideal.ofBits .f32 0x00000000#32)) (ix2 0 c)) = _
    have e1 : select k1_pay10 (k1_pay11 (F := Ideal) x) (broadcast S1x1024 (Ideal.ofBits .f32 0x00000000#32)) (ix2 0 c)
        = ((if c.val = 1000 then ∑ i, lse Y i else 0 : ℝ) : EReal) := by
      have e : k1_pay10 (ix2 0 c) = IntOp.cmpi .eq (BitVec.ofNat 32 c.val) (BitVec.ofNat 32 1000) := by
        unfold k1_pay10
        show IntOp.cmpi .eq (iota .tc S1x1024 32 [1] _ (ix2 0 c)) _ = _
        rw [iota_single_apply]; rfl
      rw [select_apply, e, select_word (by have := c.isLt; omega) (by omega), pay11_at x Y hx, broadcast_apply, lit_zero, ite_coe]
    have e2 : select (cmpi .eq (iota .tc S1x1024 32 [1] iota_S1x1024_d1_w32) (broadcast S1x1024 1001#32))
          (broadcastTo S1x1024 (shapeCast S1x1 (k1_pay9 (F := Ideal) x t) shapeCasts_S1x1_S1x1) broadcasts_S1x1_S1x1024) (broadcast S1x1024 (Ideal.ofBits .f32 0x00000000#32)) (ix2 0 c)
        = ((if c.val = 1001 then ∑ i, Y i (U i) else 0 : ℝ) : EReal) := by
      have e : cmpi .eq (iota .tc S1x1024 32 [1] iota_S1x1024_d1_w32) (broadcast S1x1024 1001#32) (ix2 0 c) = IntOp.cmpi .eq (BitVec.ofNat 32 c.val) (BitVec.ofNat 32 1001) := by
        show IntOp.cmpi .eq (iota .tc S1x1024 32 [1] _ (ix2 0 c)) _ = _
        rw [iota_single_apply]; rfl
      rw [select_apply, e, select_word (by have := c.isLt; omega) (by omega), spread_one, shapeCast_self, pay9_at x t Y U hx ht, broadcast_apply, lit_zero, ite_coe]
    rw [e1, e2, shapeCast_self]
    refine (congrArg (· + _) ((window_row (n := 2) (m := 1024) _ 0 1024 _ (by decide) c c.isLt).trans (put_row (n := 2) (m := 1024) _ 0 1000 _ 0 c))).trans ?_
    dsimp only
    by_cases hc : c.val < 1000
    · rw [dif_pos ⟨rfl, hc⟩, if_neg (by omega), if_neg (by omega), EReal.coe_zero, add_zero, add_zero]
      unfold k1_pay1
      show shapeCast S1x1000 _ _ (ix2 0 ⟨c.val, hc⟩) + k1_pay8 (F := Ideal) x (ix2 0 ⟨c.val, hc⟩) = _
      rw [shapeCast_self, pay8_at x Y hx]
      refine (congrArg (· + _) (window_row (n := 2) (m := 1024) _ 0 1000 _ (by decide) ⟨c.val, hc⟩ c.isLt)).trans ?_
      rw [sum_part_logit Y U ⟨c.val, hc⟩]; rfl
    · rw [dif_neg fun h => hc h.2, ← EReal.coe_add]
      congr 2
      by_cases h0 : c.val = 1000
      · rw [if_pos h0, if_neg (by omega), add_zero, h0, sum_part_lse]
      · by_cases h1 : c.val = 1001
        · rw [if_neg h0, if_pos h1, zero_add, h1, sum_part_target]
        · rw [if_neg h0, if_neg h1, add_zero, Finset.sum_eq_zero fun i _ => ?_]
          unfold part
          rw [if_pos rfl, dif_neg hc, if_neg h0, if_neg h1]

end Block

variable (X : S16384x1000.Idx → Ideal .f32) (C : S16384x1.Idx → BitVec 32) (Y : Fin 16384 → Fin 1000 → ℝ) (U : Fin 16384 → Fin 1000)
  (hX : ∀ i j, X (ix2 i j) = (Y i j : EReal)) (hC : ∀ i, C (ix2 i 0) = BitVec.ofNat 32 (U i).val)

/-- Row `i` of block `k`. -/
def rowOf (k i : ℕ) : Fin 16384 := ⟨(k * 2048 + i) % 16384, Nat.mod_lt _ (by decide)⟩

/-- The blocks' rows are the rows. -/
theorem sum_blocks (f : Fin 16384 → ℝ) : ∑ k ∈ Finset.range 8, ∑ i : Fin 2048, f (rowOf k i.val) = ∑ i, f i := by
  have e : ∑ l ∈ Finset.range (8 * 2048), f (rowOf 0 l) = ∑ k ∈ Finset.range 8, ∑ b ∈ Finset.range 2048, f (rowOf 0 (k * 2048 + b)) :=
    Finset.sum_range_mul_split 8 2048 fun l => f (rowOf 0 l)
  calc _ = ∑ k ∈ Finset.range 8, ∑ b ∈ Finset.range 2048, f (rowOf 0 (k * 2048 + b)) := by
        refine Finset.sum_congr rfl fun k _ => ?_
        rw [Finset.sum_range]
        refine Finset.sum_congr rfl fun i _ => congrArg f (Fin.ext ?_)
        show (k * 2048 + i.val) % 16384 = (0 * 2048 + (k * 2048 + i.val)) % 16384
        rw [Nat.zero_mul, Nat.zero_add]
    _ = ∑ l ∈ Finset.range 16384, f (rowOf 0 l) := e.symm
    _ = ∑ i : Fin 16384, f (rowOf 0 i.val) := Finset.sum_range _
    _ = _ := Finset.sum_congr rfl fun i _ => congrArg f (Fin.ext (by
        show (0 * 2048 + i.val) % 16384 = i.val
        rw [Nat.zero_mul, Nat.zero_add, Nat.mod_eq_of_lt i.isLt]))

include hX hC in
/-- The sums over the first `k` blocks. -/
theorem statsUpTo_at (k : ℕ) (a : Fin 2) (c : Fin 1024) :
    statsUpTo X C k (ix2 a c) = ((∑ l ∈ Finset.range k, ∑ i : Fin 2048, part a c.val (Y (rowOf l i.val)) (U (rowOf l i.val)) : ℝ) : EReal) := by
  induction k with
  | zero => exact lit_zero
  | succ k ih =>
    rw [Finset.sum_range_succ, EReal.coe_add, ← ih]
    exact denseStep_at (xBlk X k) (tBlk C k) (fun i j => Y (rowOf k i.val) j) (fun i => U (rowOf k i.val)) (fun i j => hX _ _) (fun i => hC _) _ a c

include hX hC in
/-- The sums over all blocks. -/
theorem stats_at (a : Fin 2) (c : Fin 1024) : statsUpTo X C 8 (ix2 a c) = ((∑ i, part a c.val (Y i) (U i) : ℝ) : EReal) := by
  rw [statsUpTo_at X C Y U hX hC, sum_blocks fun i => part a c.val (Y i) (U i)]

end Cert.KernelIdeal.Run

end
-- ==== Proof.CombineValue.lean ====
/-
  The combining call's value at the exact floats.
-/
module

public import proofs.«01_k».proof.Proof.DenseValue

@[expose] public section

noncomputable section

namespace Cert.KernelIdeal.Run

open Cert.KernelIdeal Cert.KernelIdeal.Gen
open Idealize.ShloMosaic ValueIdx Cert.Layout Cert.Reals Cert.Math

/-- A class's lane. -/
def lane (c : Fin 1000) : Fin 1024 := ⟨c.val, c.isLt.trans (by decide)⟩

/-- A choice of one lane of a row, summed. -/
theorem pick_lane (v : S1x1024.Idx → Ideal .f32) (k : Fin 1024) (w : BitVec 32) (hw : w = BitVec.ofNat 32 k.val) (u u' : Fin 1) :
    shapeCast S1x1 (multiReduction .add [1] S1
        (select (cmpi .eq (iota .tc S1x1024 32 [1] iota_S1x1024_d1_w32) (broadcast S1x1024 w)) v (broadcast S1x1024 (Ideal.ofBits .f32 0x00000000#32)))
        0x00000000#32 reduces_S1x1024_S1 (.inl rfl) rfl) shapeCasts_S1_S1x1 (ix2 u u') = v (ix2 u k) := by
  rw [shapeCast_a_a1_apply]
  refine (sum_row _ _ _ _ _ _).trans ?_
  refine (Finset.sum_congr rfl fun c _ => ?_).trans (sum_lane (fun c => v (ix2 u c)) k)
  rw [select_apply, show cmpi .eq (iota .tc S1x1024 32 [1] iota_S1x1024_d1_w32) (broadcast S1x1024 w) (ix2 u c)
      = IntOp.cmpi .eq (BitVec.ofNat 32 c.val) (BitVec.ofNat 32 k.val) from by
    show IntOp.cmpi .eq (iota .tc S1x1024 32 [1] _ (ix2 u c)) w = _
    rw [iota_single_apply, hw]]
  rw [select_word (by have := c.isLt; omega) (by have := k.isLt; omega), broadcast_apply, lit_zero, EReal.coe_zero]

theorem k2_pay4_at (v : S1x1024.Idx → Ideal .f32) (u u' : Fin 1) : k2_pay4 (F := Ideal) v (ix2 u u') = v (ix2 u ⟨1000, by decide⟩) := by
  unfold k2_pay4 k2_pay2
  exact (pick_lane (shapeCast S1x1024 v shapeCasts_S1x1024_S1x1024) ⟨1000, by decide⟩ _ rfl u u').trans (by rw [shapeCast_self])
theorem k2_pay5_at (v : S1x1024.Idx → Ideal .f32) (u u' : Fin 1) : k2_pay5 (F := Ideal) v (ix2 u u') = v (ix2 u ⟨1001, by decide⟩) := by
  unfold k2_pay5 k2_pay2
  exact (pick_lane (shapeCast S1x1024 v shapeCasts_S1x1024_S1x1024) ⟨1001, by decide⟩ _ rfl u u').trans (by rw [shapeCast_self])

theorem select_classes (a b : S1x1024.Idx → Ideal .f32) (u : Fin 1) (c : Fin 1024) : select k2_pay3 a b (ix2 u c) = if c.val < 1000 then a (ix2 u c) else b (ix2 u c) := by
  rw [select_apply, show k2_pay3 (ix2 u c) = IntOp.cmpi .slt (BitVec.ofNat 32 c.val) (BitVec.ofNat 32 1000) from by
    unfold k2_pay3
    show IntOp.cmpi .slt (iota .tc S1x1024 32 [1] _ (ix2 u c)) _ = _
    rw [iota_single_apply]; rfl]
  rw [select_lt (by have := c.isLt; omega) (by omega)]

section

variable (n : S32x1024.Idx → Ideal .f32) (v4 v6 : S1x1024.Idx → Ideal .f32) (N S K : Fin 1000 → ℝ) (hn : ∀ c, ∑ w, n (ix2 w (lane c)) = (N c : EReal))
  (h4 : ∀ c, v4 (ix2 0 (lane c)) = (S c : EReal)) (h6 : ∀ c, v6 (ix2 0 (lane c)) = (K c : EReal))
  (hpos : ∀ c, 0 < K c / max (N c) 1 + eps)

include hn h6 hpos in
/-- A class's weight. -/
theorem k2_pay6_at (c : Fin 1000) : k2_pay6 (F := Ideal) n v6 (ix2 0 (lane c)) = ((1 / (K c / max (N c) 1 + eps) : ℝ) : EReal) := by
  unfold k2_pay6
  show select k2_pay3 _ _ (ix2 0 (lane c)) = _
  rw [select_classes, if_pos (show (lane c).val < 1000 from c.isLt)]
  have e3 : shapeCast S1x1024 (multiReduction .add [0] S1024 (shapeCast S32x1024 n shapeCasts_S32x1024_S32x1024) 0x00000000#32 reduces_S32x1024_S1024 (.inl rfl) rfl)
      shapeCasts_S1024_S1x1024 (ix2 0 (lane c)) = (N c : EReal) := by
    rw [shapeCast_a_1a_apply, shapeCast_self]
    exact (sum_col _ _ _ _ _ _).trans (hn c)
  have e7 : shapeCast S1x1024 v6 shapeCasts_S1x1024_S1x1024 (ix2 0 (lane c)) = (K c : EReal) := by rw [shapeCast_self, h6]
  show Ideal.div (Ideal.ofBits .f32 0x3F800000#32) (Ideal.div (shapeCast S1x1024 v6 shapeCasts_S1x1024_S1x1024 (ix2 0 (lane c)))
    (max (shapeCast S1x1024 (multiReduction .add [0] S1024 (shapeCast S32x1024 n shapeCasts_S32x1024_S32x1024) 0x00000000#32 reduces_S32x1024_S1024 (.inl rfl) rfl)
      shapeCasts_S1024_S1x1024 (ix2 0 (lane c))) (Ideal.ofBits .f32 0x3F800000#32)) + Ideal.ofBits .f32 0x3727C5AC#32) = _
  rw [e3, e7, lit_one, lit_eps, max_coe, div_coe _ _ (ne_of_gt (lt_of_lt_of_le one_pos (le_max_right _ _))), ← EReal.coe_add, div_coe _ _ (hpos c).ne']

theorem k2_pay6_past (u : Fin 1) (c : Fin 1024) (hc : ¬c.val < 1000) : k2_pay6 (F := Ideal) n v6 (ix2 u c) = 0 := by
  unfold k2_pay6
  show select k2_pay3 _ _ (ix2 u c) = _
  rw [select_classes, if_neg hc]
  exact lit_zero.trans EReal.coe_zero

include hn h6 hpos in
/-- The sum of the weights. -/
theorem k2_pay7_at : k2_pay7 (F := Ideal) n v6 (ix2 0 0) = ((∑ c, 1 / (K c / max (N c) 1 + eps) : ℝ) : EReal) := by
  unfold k2_pay7
  show shapeCast S1x1 _ _ (ix2 0 0) = _
  rw [shapeCast_a_a1_apply]
  refine (sum_row _ _ _ _ _ _).trans ?_
  exact sum_thousand (fun c => k2_pay6_at n v6 N K hn h6 hpos c) (fun c hc => k2_pay6_past n v6 0 c hc)

include hn h4 h6 hpos in
/-- The weighted sum of the column sums. -/
theorem k2_pay8_at : k2_pay8 (F := Ideal) n v4 v6 (ix2 0 0) = ((∑ c, 1 / (K c / max (N c) 1 + eps) * S c : ℝ) : EReal) := by
  unfold k2_pay8
  show shapeCast S1x1 _ _ (ix2 0 0) = _
  rw [shapeCast_a_a1_apply]
  refine (sum_row _ _ _ _ _ _).trans ?_
  refine sum_thousand (fun c => ?_) (fun c hc => ?_)
  · refine (select_classes _ _ 0 (lane c)).trans ?_
    rw [if_pos (show (lane c).val < 1000 from c.isLt), mulf_apply, k2_pay6_at n v6 N K hn h6 hpos c]
    unfold k2_pay2
    show _ * shapeCast S1x1024 v4 _ _ = _
    rw [shapeCast_self, h4, ← EReal.coe_mul]
  · refine (select_classes _ _ 0 c).trans ?_
    rw [if_neg hc]
    exact lit_zero.trans EReal.coe_zero

end

/-- The combined value. -/
theorem k2_pay1_at (a b w d : S1x1.Idx → Ideal .f32) (A B W D : ℝ) (ha : a (ix2 0 0) = (A : EReal)) (hb : b (ix2 0 0) = (B : EReal)) (hw : w (ix2 0 0) = (W : EReal))
    (hd : d (ix2 0 0) = (D : EReal)) (hW : W ≠ 0) : k2_pay1 (F := Ideal) a b w d (ix2 0 0) = ((((keep + smooth) * A - keep * B - smooth * D / W) / 16384 : ℝ) : EReal) := by
  have hboth : Named.named (F := Ideal) (φ := .f32) κ "both" 0x3F666CF4#32 = ((keep + smooth : ℝ) : EReal) := by
    rw [keep_add_smooth]; exact IdealRules.named_const.ideal_named_scalar κ "both" _ _ rfl
  unfold k2_pay1
  simp only [divf_apply, subf_apply, mulf_apply, broadcast_apply, hboth, ha, hb, hw, hd]
  rw [show Scalar.ofBits (F := Ideal) .f32 0x3F666666#32 = _ from lit_keep, show Scalar.ofBits (F := Ideal) .f32 0x38D1B717#32 = _ from lit_smooth,
    show Scalar.ofBits (F := Ideal) .f32 0x46800000#32 = _ from lit_rows]
  rw [← EReal.coe_mul, ← EReal.coe_mul, ← EReal.coe_mul, div_coe _ _ hW, ← EReal.coe_sub, ← EReal.coe_sub,
    div_coe _ _ (by norm_num)]

end Cert.KernelIdeal.Run

end
-- ==== Proof.KernelValue.lean ====
/-
  The kernel's result at the exact floats: from finite logits and class numbers, the loss from the sums.
-/
module

public import proofs.«01_k».proof.Proof.CombineValue
public import proofs.«01_k».proof.Proof.Run

@[expose] public section

noncomputable section

namespace Cert.KernelIdeal.Run

open Cert.KernelIdeal Cert.KernelIdeal.Gen
open Idealize.ShloMosaic ValueIdx Cert.Layout Cert.Reals Cert.Math

/-- A tile's counts. -/
theorem cnt_at (T : ℕ → ℕ) (n : ℕ) (j : S1024.Idx) :
    Mem.cnt (F := Ideal) (N := 1024) zeroF oneF T n j = ((∑ k ∈ Finset.range n, if T k = (j 0).val then 1 else 0 : ℝ) : EReal) := by
  induction n with
  | zero => exact lit_zero
  | succ n ih =>
    rw [Finset.sum_range_succ]
    show (if (j 0).val = T n then FloatOps.idxAddf (Mem.cnt (F := Ideal) (N := 1024) zeroF oneF T n j) oneF else Mem.cnt (F := Ideal) (N := 1024) zeroF oneF T n j) = _
    rw [ih]
    by_cases h : T n = (j 0).val
    · rw [if_pos h.symm, if_pos h, EReal.coe_add]
      exact congrArg (_ + ·) lit_one
    · rw [if_neg fun h' => h h'.symm, if_neg h, add_zero]

/-- The tiles' lists are the list. -/
theorem sum_tiles (f : Fin 16384 → ℝ) :
    ∑ w : Fin 32, ∑ k ∈ Finset.range 512, f ⟨(w.val * 512 + k % 512) % 16384, Nat.mod_lt _ (by decide)⟩ = ∑ i, f i := by
  have e := Finset.sum_range_mul_split 32 512 fun l => f ⟨l % 16384, Nat.mod_lt _ (by decide)⟩
  calc _ = ∑ w ∈ Finset.range 32, ∑ k ∈ Finset.range 512, f ⟨(w * 512 + k) % 16384, Nat.mod_lt _ (by decide)⟩ := by
        rw [Finset.sum_range]
        refine Finset.sum_congr rfl fun w _ => Finset.sum_congr rfl fun k hk => congrArg f (Fin.ext ?_)
        show (w.val * 512 + k % 512) % 16384 = (w.val * 512 + k) % 16384
        rw [Nat.mod_eq_of_lt (Finset.mem_range.mp hk)]
    _ = ∑ l ∈ Finset.range 16384, f ⟨l % 16384, Nat.mod_lt _ (by decide)⟩ := e.symm
    _ = ∑ i : Fin 16384, f ⟨i.val % 16384, Nat.mod_lt _ (by decide)⟩ := Finset.sum_range _
    _ = _ := Finset.sum_congr rfl fun i _ => congrArg f (Fin.ext (Nat.mod_eq_of_lt i.isLt))

variable (T : S16384.Idx → BitVec 32) (U : Fin 16384 → Fin 1000) (hT : ∀ i, T (ix1 i) = BitVec.ofNat 32 (U i).val)

include hT in
/-- The counts of all tiles. -/
theorem counts_at (c : Fin 1000) : ∑ w : Fin 32, countsBuf (F := Ideal) T (ix2 w (lane c)) = ((Math.count U c : ℝ) : EReal) := by
  rw [sum_of (f := fun w : Fin 32 => ∑ k ∈ Finset.range 512, if tileCls T w.val k = c.val then 1 else 0) fun w _ => cnt_at _ _ _]
  unfold Math.count
  rw [← sum_tiles fun i => if U i = c then 1 else 0]
  congr 1
  refine Finset.sum_congr rfl fun w _ => Finset.sum_congr rfl fun k _ => ?_
  have e : tileCls T w.val k = (U ⟨(w.val * 512 + k % 512) % 16384, Nat.mod_lt _ (by decide)⟩).val := by
    unfold tileCls
    rw [show Shape.ofLane (d := ![16384]) (⟨(w.val * 512 + k % 512) % 16384, Nat.mod_lt _ (by decide)⟩ : Fin 16384)
      = ix1 ⟨(w.val * 512 + k % 512) % 16384, Nat.mod_lt _ (by decide)⟩ from eq_ix1 _, hT, BitVec.toNat_ofNat, Nat.mod_eq_of_lt]
    have := (U ⟨(w.val * 512 + k % 512) % 16384, Nat.mod_lt _ (by decide)⟩).isLt
    omega
  rw [e]
  exact if_congr (by rw [Fin.ext_iff]) rfl rfl

variable (X : S16384x1000.Idx → Ideal .f32) (Y : Fin 16384 → Fin 1000 → ℝ) (hX : ∀ i j, X (ix2 i j) = (Y i j : EReal))

include hT hX in
/-- The combined value of the sums and the counts. -/
theorem combine_at : combine (F := Ideal) (countsBuf T) (statsUpTo X (shapeCast S16384x1 T shapeCasts_S16384_S16384x1) 8) (ix2 0 0)
    = ((fromSums Y U keep smooth eps : ℝ) : EReal) := by
  have hC : ∀ i, shapeCast S16384x1 T shapeCasts_S16384_S16384x1 (ix2 i 0) = BitVec.ofNat 32 (U i).val := fun i => by rw [shapeCast_a_a1_apply, hT]
  have st := stats_at X _ Y U hX hC
  generalize statsUpTo X (shapeCast S16384x1 T shapeCasts_S16384_S16384x1) 8 = s at st ⊢
  have h4 : ∀ c : Fin 1024, VecWindow.window s ![0, 0] S1x1024.size inb_S2x1024_S1x1024_0_0 (ix2 0 c) = ((∑ i, part 0 c.val (Y i) (U i) : ℝ) : EReal) :=
    fun c => (window_row (n := 2) (m := 1024) s 0 1024 _ (by decide) c c.isLt).trans (st 0 c)
  have h6 : ∀ c : Fin 1000, VecWindow.window s ![1, 0] S1x1024.size inb_S2x1024_S1x1024_1_0 (ix2 0 (lane c)) = ((corr Y U c : ℝ) : EReal) :=
    fun c => (window_row (n := 2) (m := 1024) s 1 1024 _ (by decide) (lane c) (lane c).isLt).trans ((st 1 (lane c)).trans (by rw [← sum_part_corr]; rfl))
  have hS : ∀ c : Fin 1000, VecWindow.window s ![0, 0] S1x1024.size inb_S2x1024_S1x1024_0_0 (ix2 0 (lane c)) = ((∑ i, Y i c : ℝ) : EReal) :=
    fun c => (h4 (lane c)).trans (by rw [← sum_part_logit Y U]; rfl)
  have hpos := fun c => denom_pos Y U eps eps_pos c
  unfold combine
  exact k2_pay1_at _ _ _ _ _ _ _ _ ((k2_pay4_at _ 0 0).trans ((h4 _).trans (by rw [sum_part_lse])))
    ((k2_pay5_at _ 0 0).trans ((h4 _).trans (by rw [sum_part_target])))
    (k2_pay7_at _ _ _ _ (counts_at T U hT) h6 hpos) (k2_pay8_at _ _ _ _ _ _ (counts_at T U hT) hS h6 hpos) (weights_pos Y U eps eps_pos).ne'

/-- The result, from a memory of finite logits and class numbers. -/
theorem result_at (m : (ℓ : Loc nD τ sig) → Buf (Elt Ideal) ℓ) (d : Dev nD) (Y : Fin 16384 → Fin 1000 → ℝ) (U : Fin 16384 → Fin 1000)
    (hX : ∀ i j, (m (xLoc d) : S16384x1000.Idx → Ideal .f32) (ix2 i j) = (Y i j : EReal))
    (hT : ∀ i, (m (tLoc d) : S16384.Idx → BitVec 32) (ix1 i) = BitVec.ofNat 32 (U i).val) (j : S_.Idx) :
    result m d j = ((fromSums Y U keep smooth eps : ℝ) : EReal) := by
  have e := combine_at (m (tLoc d)) U hT (m (xLoc d)) Y hX
  refine Eq.trans ?_ e
  show (found m).out d _ = (found m).out d _
  refine congrArg _ ((eq_ix2 _).trans ?_)
  exact congrArg₂ ix2 (Subsingleton.elim (α := Fin 1) _ _) (Subsingleton.elim (α := Fin 1) _ _)

end Cert.KernelIdeal.Run

end
-- ==== Proof.Argmax.lean ====
/-
  The reference's first maximum, at the exact floats: it is the target exactly where no logit of the row exceeds the target's, if a target of the largest
  logit is the row's first maximum.
-/
module

public import proofs.«01_k».proof.Proof.Reference
public import proofs.«01_k».proof.Proof.Reals
public import proofs.«01_k».proof.Proof.Pre
public import proofs.«01_k».proof.Proof.Math

@[expose] public section

noncomputable section

namespace Cert.ReferenceIdeal.Run

open Cert.ReferenceIdeal Cert.ReferenceIdeal.Facts₀ Cert.ReferenceIdeal.Facts
open Idealize.ShloMosaic ValueIdx Cert.Layout Cert.Reals Cert.Math

/-- A step keeps one of the two pairs, of a number no smaller. -/
theorem step_cases (a b : EReal × BitVec 32) :
    (reducer_argmax_f32_i32 (F := Ideal) a b = a ∧ b.1 ≤ a.1) ∨ (reducer_argmax_f32_i32 (F := Ideal) a b = b ∧ a.1 ≤ b.1) := by
  obtain ⟨p, i⟩ := a
  obtain ⟨q, j⟩ := b
  have h2 : FloatOps.cmpf (F := Ideal) (φ := .f32) .ogt p q = BitVec.ofBool (decide (q < p)) := by
    show BitVec.ofBool (@decide (q < p) _) = _
    congr 1
  have h3 : FloatOps.cmpf (F := Ideal) (φ := .f32) .une p p = 0#1 := by
    show BitVec.ofBool (@decide (p ≠ p) _) = _
    rw [decide_eq_false fun h : p ≠ p => h rfl]; rfl
  have h5 : FloatOps.cmpf (F := Ideal) (φ := .f32) .oeq p q = BitVec.ofBool (decide (p = q)) := cmp_eq _ _ _ Iff.rfl
  unfold reducer_argmax_f32_i32
  dsimp only
  rw [h2, h3, h5]
  generalize IntOp.cmpi .slt i j = w
  rcases lt_trichotomy p q with h | h | h
  · right
    rw [decide_eq_false h.not_gt, decide_eq_false h.ne]
    refine ⟨?_, h.le⟩
    revert w; intro w
    have : w = 0#1 ∨ w = 1#1 := by revert w; decide
    rcases this with rfl | rfl <;> rfl
  · subst h
    rw [decide_eq_false (lt_irrefl p), decide_eq_true rfl]
    have : w = 0#1 ∨ w = 1#1 := by revert w; decide
    rcases this with rfl | rfl
    · exact Or.inr ⟨rfl, le_rfl⟩
    · exact Or.inl ⟨rfl, le_rfl⟩
  · left
    rw [decide_eq_true h, decide_eq_false h.ne']
    refine ⟨?_, h.le⟩
    have : w = 0#1 ∨ w = 1#1 := by revert w; decide
    rcases this with rfl | rfl <;> rfl

/-- A fold of steps ends at the pair it began with or at one of the list, of a number no smaller than any. -/
theorem fold_cases (l : List (EReal × BitVec 32)) (a : EReal × BitVec 32) :
    (l.foldl (reducer_argmax_f32_i32 (F := Ideal)) a = a ∨ l.foldl (reducer_argmax_f32_i32 (F := Ideal)) a ∈ l)
      ∧ a.1 ≤ (l.foldl (reducer_argmax_f32_i32 (F := Ideal)) a).1 ∧ ∀ p ∈ l, p.1 ≤ (l.foldl (reducer_argmax_f32_i32 (F := Ideal)) a).1 := by
  induction l generalizing a with
  | nil => exact ⟨Or.inl rfl, le_rfl, fun p hp => nomatch hp⟩
  | cons b l ih =>
    rw [List.foldl_cons]
    obtain ⟨h1, h2, h3⟩ := ih (reducer_argmax_f32_i32 (F := Ideal) a b)
    rcases step_cases a b with ⟨e, hle⟩ | ⟨e, hle⟩ <;> rw [e] at h1 h2 h3 ⊢
    · refine ⟨h1.imp id fun h => List.mem_cons_of_mem _ h, h2, fun p hp => ?_⟩
      rcases List.mem_cons.mp hp with rfl | hp
      · exact hle.trans h2
      · exact h3 p hp
    · refine ⟨Or.inr (h1.elim (fun h => List.mem_cons.mpr (Or.inl h)) fun h => List.mem_cons_of_mem _ h), hle.trans h2, fun p hp => ?_⟩
      rcases List.mem_cons.mp hp with rfl | hp
      · exact h2
      · exact h3 p hp

variable (x : S16384x1000.Idx → Ideal .f32) (t : S16384.Idx → BitVec 32) (Y : Fin 16384 → Fin 1000 → ℝ) (U : Fin 16384 → Fin 1000)
  (hx : ∀ i j, x (ix2 i j) = (Y i j : EReal)) (ht : ∀ i, t (ix1 i) = BitVec.ofNat 32 (U i).val)

theorem reduces_rows : (⟨2, ![16384, 1000]⟩ : Shape).Reduces [1] ⟨1, ![16384]⟩ := by decide

/-- A reduction of a row's pairs is a fold over a list of just the row's pairs. -/
theorem arg_row {n m : ℕ} (f : Ideal .f32 × BitVec 32 → Ideal .f32 × BitVec 32 → Ideal .f32 × BitVec 32) (x : FVec Ideal ⟨2, ![n, m]⟩ .f32)
    (y : IVec ⟨2, ![n, m]⟩ 32) (z : FVec Ideal ⟨0, ![]⟩ .f32) (w : IVec ⟨0, ![]⟩ 32) (h' : (⟨2, ![n, m]⟩ : Shape).ReducesTo [1] ⟨1, ![n]⟩)
    (h : (⟨2, ![n, m]⟩ : Shape).Reduces [1] ⟨1, ![n]⟩) (hu : 0 < (⟨0, ![]⟩ : Shape).numel) (i : Fin n) :
    ∃ l : List (Ideal .f32 × BitVec 32), Host.argReduce f x y z w h' hu (ix1 i) = l.foldl f (z ix0, w ix0)
      ∧ (∀ p ∈ l, ∃ j, p = (x (ix2 i j), y (ix2 i j))) ∧ ∀ j, (x (ix2 i j), y (ix2 i j)) ∈ l := by
  have hd : ∀ a b, h'.drop (ix2 a b) = ix1 a := fun a b => by
    rw [Shape.ReducesTo.drop_eq_drop h' h, ← lift_row h]
    exact h.drop_lift _ _
  refine ⟨Host.argReduceFiber x y h' (ix1 i), ?_, fun p hp => ?_, fun j => ?_⟩
  · rw [Ideal.argReduce_eq_reduce2, Host.reduce2_eq_foldl_fiber, eq_ix0 (Shape.Idx.first hu)]
  · obtain ⟨k, hk, rfl⟩ := List.mem_map.mp hp
    have hk := of_decide_eq_true (List.mem_filter.mp hk).2
    generalize (⟨2, ![n, m]⟩ : Shape).rowMajor.symm k = q at hk ⊢
    obtain ⟨a, b, rfl⟩ : ∃ (a : Fin n) (b : Fin m), q = ix2 a b := ⟨_, _, eq_ix2 q⟩
    rw [hd] at hk
    obtain rfl : a = i := congrFun hk 0
    exact ⟨b, rfl⟩
  · refine List.mem_map.mpr ⟨(⟨2, ![n, m]⟩ : Shape).rowMajor (ix2 i j), List.mem_filter.mpr ⟨List.mem_finRange _, ?_⟩, ?_⟩
    · rw [Equiv.symm_apply_apply, hd]; exact decide_eq_true rfl
    · rw [Equiv.symm_apply_apply]

/-- The index a row's first maximum carries is one of the largest number. -/
theorem largest_row {n m : ℕ} (x : FVec Ideal ⟨2, ![n, m]⟩ .f32) (y : IVec ⟨2, ![n, m]⟩ 32) (z : FVec Ideal ⟨0, ![]⟩ .f32) (w : IVec ⟨0, ![]⟩ 32)
    (h' : (⟨2, ![n, m]⟩ : Shape).ReducesTo [1] ⟨1, ![n]⟩) (h : (⟨2, ![n, m]⟩ : Shape).Reduces [1] ⟨1, ![n]⟩) (hu : 0 < (⟨0, ![]⟩ : Shape).numel) (i : Fin n)
    (X : Fin m → ℝ) (hx : ∀ j, x (ix2 i j) = (X j : EReal)) (hz : z ix0 = (⊥ : EReal)) (k₀ : Fin m) :
    ∃ j : Fin m, (Host.argReduce (reducer_argmax_f32_i32 (F := Ideal)) x y z w h' hu (ix1 i)).2 = y (ix2 i j) ∧ ∀ k, X k ≤ X j := by
  obtain ⟨l, e, hl, hm⟩ := arg_row (reducer_argmax_f32_i32 (F := Ideal)) x y z w h' h hu i
  rw [e]
  obtain ⟨h1, -, h3⟩ := fold_cases l (z ix0, w ix0)
  generalize l.foldl (reducer_argmax_f32_i32 (F := Ideal)) (z ix0, w ix0) = r at h1 h3 ⊢
  have h3' : ∀ k, (X k : EReal) ≤ r.1 := fun k => hx k ▸ h3 _ (hm k)
  rcases h1 with rfl | h1
  · have h := h3' k₀
    exact absurd (le_bot_iff.mp (h.trans_eq hz)) (EReal.coe_ne_bot _)
  · obtain ⟨j, rfl⟩ := hl _ h1
    refine ⟨j, rfl, fun k => ?_⟩
    have h := (h3' k).trans_eq (hx j)
    exact EReal.coe_le_coe_iff.mp h

/-- The reference's first maxima, spelled out. -/
theorem argmax_eq : argmax (F := Ideal) x = fun j => (Host.argReduce (reducer_argmax_f32_i32 (F := Ideal)) x (iotaInDim S16384x1000 32 1)
    (constant (F := Ideal) S_ .f32 0xFF800000#32) (constantI S_ 32 0#32) reducesTo_S16384x1000_S16384_d1 h_S_ j).2 := by
  unfold argmax; rfl

theorem class_at (i : Fin 16384) (j : Fin 1000) : iotaInDim S16384x1000 32 1 (ix2 i j) = BitVec.ofNat 32 j.val := by
  rfl

include hx in
/-- The first maximum is a class of the largest logit. -/
theorem argmax_largest (i : Fin 16384) : ∃ j : Fin 1000, argmax (F := Ideal) x (ix1 i) = BitVec.ofNat 32 j.val ∧ ∀ k, Y i k ≤ Y i j := by
  obtain ⟨j, hj, hk⟩ := largest_row x (iotaInDim S16384x1000 32 1) (constant (F := Ideal) S_ .f32 0xFF800000#32) (constantI S_ 32 0#32)
    reducesTo_S16384x1000_S16384_d1 reduces_rows h_S_ i (Y i) (hx i) ofBits_bot 0
  exact ⟨j, (congrFun (argmax_eq x) (ix1 i)).trans (hj.trans (class_at i j)), hk⟩

include hx ht in
/-- A row is correct exactly where no logit exceeds its target's. -/
theorem argmax_iff (hfirst : ∀ i, (∀ k, Y i k ≤ Y i (U i)) → argmax (F := Ideal) x (ix1 i) = t (ix1 i)) (i : Fin 16384) :
    argmax (F := Ideal) x (ix1 i) = t (ix1 i) ↔ ∀ k, Y i k ≤ Y i (U i) := by
  refine ⟨fun h => ?_, hfirst i⟩
  obtain ⟨j, hj, hk⟩ := argmax_largest x Y hx i
  rw [ht, hj] at h
  have e : j = U i := Fin.ext ((word_eq (by have := j.isLt; omega) (by have := (U i).isLt; omega)).mp h)
  exact e ▸ hk

include hx ht in
/-- A correct row counts one. -/
theorem correct_at (hfirst : ∀ i, (∀ k, Y i k ≤ Y i (U i)) → argmax (F := Ideal) x (ix1 i) = t (ix1 i)) (i : Fin 16384) :
    correct (F := Ideal) x t (ix1 i) = ((good Y U i : ℝ) : EReal) := by
  show (((IntOp.cmpi .eq (argmax (F := Ideal) x (ix1 i)) (t (ix1 i))).toNat : ℝ) : EReal) = _
  have hi := argmax_iff x t Y U hx ht hfirst i
  unfold good
  by_cases h : ∀ k, Y i k ≤ Y i (U i)
  · rw [if_pos h, IntOp.cmpi_eq.mpr (hi.mpr h)]; simp
  · rw [if_neg h, show IntOp.cmpi .eq (argmax (F := Ideal) x (ix1 i)) (t (ix1 i)) = 0#1 from ?_]
    · simp
    · by_contra h'
      refine h (hi.mp (IntOp.cmpi_eq.mp ?_))
      revert h'; generalize IntOp.cmpi .eq (argmax (F := Ideal) x (ix1 i)) (t (ix1 i)) = w; revert w; decide

/-- Under the precondition a target of the largest logit is the first maximum. -/
theorem first_of_untied [Cert.Pre_untied.Facts] (h : Cert.Pre_untied.fn (F := Ideal) x t = fun _ => 1#1) (hx : ∀ i j, x (ix2 i j) = (Y i j : EReal))
    (ht : ∀ i, t (ix1 i) = BitVec.ofNat 32 (U i).val) (i : Fin 16384) (hk : ∀ k, Y i k ≤ Y i (U i)) : argmax (F := Ideal) x (ix1 i) = t (ix1 i) := by
  have e : argmax (F := Ideal) x = Cert.Pre_untied.fn_argmax (F := Ideal) x := by
    unfold argmax Cert.Pre_untied.fn_argmax
    rfl
  rw [e]
  refine Cert.Pre.untied_first x t h i (U i) (ht i) ?_
  rw [host_max_row x _ reduces_rows]
  simp only [hx]
  rw [(eq_sup_iff (Y i) (U i)).mpr hk]
  exact lt_irrefl _

end Cert.ReferenceIdeal.Run

end
-- ==== Proof.Scatter.lean ====
/-
  Where a scatter's updates land, and what it leaves: sums into a vector by one index each, and a value set in a matrix by a pair of indices each.
-/
module

public import proofs.«01_k».proof.Proof.Reals
public import Idealize.ShloMosaic.Lib.Routing.OpsPair
public import Idealize.ShloMosaic.Lib.Routing.OpsSet

@[expose] public section

noncomputable section

namespace Cert.Layout

open Idealize.ShloMosaic ValueIdx Idealize.ShloMosaic.Routing

variable {N M R : ℕ}

/-- Vectors' indices are their coordinates. -/
def coord : (⟨1, ![M]⟩ : Shape).Idx ≃ Fin M := ⟨fun i => i 0, fun i => ix1 i, fun i => (eq_ix1 i).symm, fun _ => rfl⟩

/-- One index each, into a vector. -/
def intoVector (h : ScatterDims.WF ⟨1, ![N]⟩ ⟨2, ![M, 1]⟩ ⟨1, ![M]⟩ [] [0] [0] 1) : ScatterDims ⟨1, ![N]⟩ ⟨2, ![M, 1]⟩ ⟨1, ![M]⟩ where
  updateWindowDims := []
  insertedWindowDims := [0]
  scatterDimsToOperandDims := [0]
  indexVectorDim := 1
  wf := h
/-- A pair of indices each, into a matrix. -/
def intoMatrix (h : ScatterDims.WF ⟨2, ![R, N]⟩ ⟨2, ![M, 2]⟩ ⟨1, ![M]⟩ [] [0, 1] [0, 1] 1) : ScatterDims ⟨2, ![R, N]⟩ ⟨2, ![M, 2]⟩ ⟨1, ![M]⟩ where
  updateWindowDims := []
  insertedWindowDims := [0, 1]
  scatterDimsToOperandDims := [0, 1]
  indexVectorDim := 1
  wf := h

theorem lands_vector (h : ScatterDims.WF ⟨1, ![N]⟩ ⟨2, ![M, 1]⟩ ⟨1, ![M]⟩ [] [0] [0] 1) (idx : IVec ⟨2, ![M, 1]⟩ 32) (i : Fin M) (c : Fin N) :
    (intoVector h).resultIdx? (ix1 i) idx = some (ix1 c) ↔ (idx (ix2 i 0)).toInt = (c.val : ℤ) := by
  have hw : (intoVector h).window (ix1 i) 0 = 0 := rfl
  have hs : (intoVector h).start (ix1 i) idx 0 = (idx (ix2 i 0)).toInt := by
    show (idx _).toInt = _
    refine congrArg (fun k => (idx k).toInt) (funext fun a => Fin.ext ?_)
    match a with
    | ⟨0, _⟩ => rfl
    | ⟨1, _⟩ => rfl
  refine (resultIdx?_ix1 (intoVector h) (ix1 i) idx c).trans ?_
  rw [hw, hs]; omega

theorem lands_matrix (h : ScatterDims.WF ⟨2, ![R, N]⟩ ⟨2, ![M, 2]⟩ ⟨1, ![M]⟩ [] [0, 1] [0, 1] 1) (idx : IVec ⟨2, ![M, 2]⟩ 32) (i : Fin M) (r : Fin R) (c : Fin N) :
    (intoMatrix h).resultIdx? (ix1 i) idx = some (ix2 r c) ↔ (idx (ix2 i 0)).toInt = (r.val : ℤ) ∧ (idx (ix2 i 1)).toInt = (c.val : ℤ) := by
  have hw : ∀ q, (intoMatrix h).window (ix1 i) q = 0 := fun q => by match q with | ⟨0, _⟩ => rfl | ⟨1, _⟩ => rfl
  have hs0 : (intoMatrix h).start (ix1 i) idx 0 = (idx (ix2 i 0)).toInt := by
    show (idx _).toInt = _
    refine congrArg (fun k => (idx k).toInt) (funext fun a => Fin.ext ?_)
    match a with
    | ⟨0, _⟩ => rfl
    | ⟨1, _⟩ => rfl
  have hs1 : (intoMatrix h).start (ix1 i) idx 1 = (idx (ix2 i 1)).toInt := by
    show (idx _).toInt = _
    refine congrArg (fun k => (idx k).toInt) (funext fun a => Fin.ext ?_)
    match a with
    | ⟨0, _⟩ => rfl
    | ⟨1, _⟩ => rfl
  refine (resultIdx?_ix2 (intoMatrix h) (ix1 i) idx r c).trans ?_
  rw [hw, hw, hs0, hs1]; omega

/-- A word below `2 ^ 31`, read as signed. -/
theorem toInt_word {a : ℕ} (h : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

variable (idx : IVec ⟨2, ![M, 1]⟩ 32) (u : Fin M → Fin N) (hN : N ≤ 2 ^ 31) (hi : ∀ i, idx (ix2 i 0) = BitVec.ofNat 32 (u i).val)

include hN hi in
theorem lands_class (h : ScatterDims.WF ⟨1, ![N]⟩ ⟨2, ![M, 1]⟩ ⟨1, ![M]⟩ [] [0] [0] 1) (i : Fin M) (c : Fin N) :
    (intoVector h).resultIdx? (ix1 i) idx = some (ix1 c) ↔ u i = c := by
  rw [lands_vector, hi, toInt_word ((u i).isLt.trans_le hN), Fin.ext_iff]; omega

include hN hi in
/-- Numbers added into a vector of zeros. -/
theorem scatter_sum (h : ScatterDims.WF ⟨1, ![N]⟩ ⟨2, ![M, 1]⟩ ⟨1, ![M]⟩ [] [0] [0] 1) (x : FVec Ideal ⟨1, ![N]⟩ .f32) (hx : ∀ c, x c = 0)
    (upd : FVec Ideal ⟨1, ![M]⟩ .f32) (g : Fin M → ℝ) (hg : ∀ i, upd (ix1 i) = (g i : EReal)) (c : Fin N) :
    Host.scatterAdd (intoVector h) x idx upd (ix1 c) = ((∑ i, if u i = c then g i else 0 : ℝ) : EReal) := by
  show x (ix1 c) + ∑ j ∈ Finset.univ.filter (fun j => (intoVector h).resultIdx? j idx = some (ix1 c)), upd j = _
  rw [hx, zero_add, Finset.sum_filter, ← Equiv.sum_comp coord.symm]
  refine Reals.sum_of fun i _ => ?_
  show (if (intoVector h).resultIdx? (ix1 i) idx = some (ix1 c) then upd (ix1 i) else 0) = _
  rw [hg]
  by_cases e : u i = c
  · rw [if_pos e, if_pos ((lands_class idx u hN hi h i c).mpr e)]
  · rw [if_neg e, if_neg fun e' => e ((lands_class idx u hN hi h i c).mp e'), EReal.coe_zero]

theorem foldl_add_ones {ι : Type} (p : ι → Prop) [DecidablePred p] (l : List ι) (k : ℕ) :
    l.foldl (fun (a : BitVec 32) n => if p n then IntOp.addi a 1#32 else a) (BitVec.ofNat 32 k) = BitVec.ofNat 32 (k + (l.map fun n => if p n then 1 else 0).sum) := by
  induction l generalizing k with
  | nil => rfl
  | cons n l ih =>
    rw [List.foldl_cons, List.map_cons, List.sum_cons, ← Nat.add_assoc]
    by_cases e : p n
    · rw [if_pos e, if_pos e, ← ih (k + 1)]
      congr 1
      show BitVec.ofNat 32 k + BitVec.ofNat 32 1 = _
      rw [BitVec.ofNat_add]
    · rw [if_neg e, if_neg e, Nat.add_zero, ← ih k]

include hN hi in
/-- Ones added, as words, into a vector of zeros. -/
theorem scatter_ones (h : ScatterDims.WF ⟨1, ![N]⟩ ⟨2, ![M, 1]⟩ ⟨1, ![M]⟩ [] [0] [0] 1) (x : IVec ⟨1, ![N]⟩ 32) (hx : ∀ c, x c = 0#32)
    (upd : IVec ⟨1, ![M]⟩ 32) (hu : ∀ i, upd i = 1#32) (c : Fin N) :
    Host.scatter (intoVector h) IntOp.addi x idx upd (ix1 c) = BitVec.ofNat 32 (∑ i, if u i = c then 1 else 0) := by
  rw [scatter_at, hx]
  simp only [hu]
  refine (foldl_add_ones (fun n => (intoVector h).resultIdx? ((⟨1, ![M]⟩ : Shape).rowMajor.symm n) idx = some (ix1 c)) _ 0).trans ?_
  rw [Nat.zero_add, ← Fin.sum_univ_def]
  refine congrArg _ ?_
  rw [Equiv.sum_comp (⟨1, ![M]⟩ : Shape).rowMajor.symm (fun j => if (intoVector h).resultIdx? j idx = some (ix1 c) then 1 else 0), ← Equiv.sum_comp coord.symm]
  exact Finset.sum_congr rfl fun i _ => if_congr (lands_class idx u hN hi h i c) rfl rfl

variable (pr : IVec ⟨2, ![M, 2]⟩ 32) (hM : M ≤ 2 ^ 31) (h0 : ∀ i, pr (ix2 i 0) = BitVec.ofNat 32 i.val) (h1 : ∀ i, pr (ix2 i 1) = BitVec.ofNat 32 (u i).val)

include hN hM h0 h1 in
/-- A value set once in each row of a matrix. -/
theorem scatter_row {α : Type} (h : ScatterDims.WF ⟨2, ![M, N]⟩ ⟨2, ![M, 2]⟩ ⟨1, ![M]⟩ [] [0, 1] [0, 1] 1) (x : (⟨2, ![M, N]⟩ : Shape).Idx → α)
    (upd : (⟨1, ![M]⟩ : Shape).Idx → α) (v : α) (hu : ∀ i, upd i = v) (i : Fin M) (j : Fin N) :
    Host.scatter (intoMatrix h) (fun _ b => b) x pr upd (ix2 i j) = if j = u i then v else x (ix2 i j) := by
  have hl : ∀ k, (intoMatrix h).resultIdx? (ix1 k) pr = some (ix2 i j) ↔ k = i ∧ j = u k := fun k => by
    rw [lands_matrix, h0, h1, toInt_word (k.isLt.trans_le hM), toInt_word ((u k).isLt.trans_le hN), Fin.ext_iff, Fin.ext_iff]; omega
  by_cases e : j = u i
  · rw [if_pos e]
    exact scatter_set_hit _ _ _ _ _ v (fun k _ => hu k) (ix1 i) ((hl i).mpr ⟨rfl, e⟩)
  · rw [if_neg e]
    refine scatter_set_miss _ _ _ _ _ fun k hk => ?_
    rw [eq_ix1 k] at hk
    obtain ⟨e1, e2⟩ := (hl (k 0)).mp hk
    exact e (e2.trans (congrArg u e1))

end Cert.Layout

end
-- ==== Proof.ReferenceValue.lean ====
/-
  The reference's loss at the exact floats is the loss on the reals, row by row.
-/
module

public import proofs.«01_k».proof.Proof.Argmax
public import proofs.«01_k».proof.Proof.Scatter
public import proofs.«01_k».proof.Proof.Reduce
public import Idealize.ShloMosaic.Lib.Pipeline.Value
public import Idealize.ShloMosaic.Lib.Routing.Words
public import Idealize.ShloMosaic.Lib.Routing.OpsPair

@[expose] public section

noncomputable section

namespace Cert.ReferenceIdeal.Run

open Cert.ReferenceIdeal Cert.ReferenceIdeal.Facts₀ Cert.ReferenceIdeal.Facts
open Idealize.ShloMosaic ValueIdx Cert.Layout Cert.Reals Cert.Math

variable (x : S16384x1000.Idx → Ideal .f32) (t : S16384.Idx → BitVec 32) (Y : Fin 16384 → Fin 1000 → ℝ) (U : Fin 16384 → Fin 1000)
  (hx : ∀ i j, x (ix2 i j) = (Y i j : EReal)) (ht : ∀ i, t (ix1 i) = BitVec.ofNat 32 (U i).val)
  (hfirst : ∀ i, (∀ k, Y i k ≤ Y i (U i)) → argmax (F := Ideal) x (ix1 i) = t (ix1 i))

/-! ### The indices -/

/-- An index that is not negative is not counted from the end. -/
theorem wrapped_at (n : BitVec 32) (u : S16384.Idx → BitVec 32) (j : S16384.Idx) {a : ℕ} (h : u j = BitVec.ofNat 32 a) (ha : a < 2 ^ 31) :
    wrapped n u j = BitVec.ofNat 32 a := by
  show Scalar.select (IntOp.cmpi .slt (u j) 0#32) (IntOp.addi (u j) n) (u j) = _
  rw [h]
  refine Routing.wrap_of_lt _ _ ?_
  rw [BitVec.toNat_ofNat]; omega

include ht in
theorem column_at (i : Fin 16384) : column t (ix2 i 0) = BitVec.ofNat 32 (U i).val := by
  have hu := (U i).isLt
  refine (asCol _ _ i 0).trans (wrapped_at _ _ _ ?_ (by omega))
  show IntOp.maxsi 0#32 (t (ix1 i)) = _
  rw [ht, Routing.maxsi_zero_left (by omega)]

/-- Two columns side by side: the first. -/
theorem side_zero {n : ℕ} (y z : (⟨2, ![n, 1]⟩ : Shape).Idx → BitVec 32) (h : Shape.Concatenates [(⟨2, ![n, 1]⟩ : Shape), ⟨2, ![n, 1]⟩] ⟨2, ![n, 2]⟩ 1) (i : Fin n) :
    concatenate ⟨2, ![n, 2]⟩ 1 [⟨⟨2, ![n, 1]⟩, y⟩, ⟨⟨2, ![n, 1]⟩, z⟩] h (ix2 i 0) = y (ix2 i 0) :=
  concatenate_pair_apply_left 1 y z h _ rfl _ fun b => match b with | ⟨0, _⟩ => rfl | ⟨1, _⟩ => rfl
/-- The second. -/
theorem side_one {n : ℕ} (y z : (⟨2, ![n, 1]⟩ : Shape).Idx → BitVec 32) (h : Shape.Concatenates [(⟨2, ![n, 1]⟩ : Shape), ⟨2, ![n, 1]⟩] ⟨2, ![n, 2]⟩ 1) (i : Fin n) :
    concatenate ⟨2, ![n, 2]⟩ 1 [⟨⟨2, ![n, 1]⟩, y⟩, ⟨⟨2, ![n, 1]⟩, z⟩] h (ix2 i 1) = z (ix2 i 0) :=
  concatenate_pair_apply_right 1 y z h (ix2 i 1) rfl rfl (ix2 i 0) (fun b hb => match b with | ⟨0, _⟩ => rfl | ⟨1, _⟩ => absurd rfl hb) rfl

theorem pairs_zero (i : Fin 16384) : pairs t (ix2 i 0) = BitVec.ofNat 32 i.val :=
  (side_zero _ _ _ i).trans ((asCol _ _ i 0).trans (wrapped_at _ (iotaInDim S16384 32 0) (ix1 i) (a := i.val) rfl (by have := i.isLt; omega)))

include ht in
theorem pairs_one (i : Fin 16384) : pairs t (ix2 i 1) = BitVec.ofNat 32 (U i).val :=
  (side_one _ _ _ i).trans ((asCol _ _ i 0).trans (wrapped_at _ t (ix1 i) (ht i) (by have := (U i).isLt; omega)))

/-! ### The weights -/

include hx ht hfirst in
theorem hits_at (c : Fin 1000) : hits (F := Ideal) x t (ix1 c) = ((corr Y U c : ℝ) : EReal) :=
  scatter_sum (column t) U (by decide) (column_at t U ht) _ _ (fun _ => lit_zero.trans EReal.coe_zero) _ (good Y U) (correct_at x t Y U hx ht hfirst) c

include ht in
theorem totals_at (c : Fin 1000) : totals t (ix1 c) = BitVec.ofNat 32 (∑ i, if U i = c then 1 else 0) :=
  scatter_ones (column t) U (by decide) (column_at t U ht) _ _ (fun _ => rfl) _ (fun _ => rfl) c

include ht in
theorem atLeastOne_at (c : Fin 1000) : atLeastOne (F := Ideal) t (ix1 c) = ((max (Math.count U c) 1 : ℝ) : EReal) := by
  show max (Ideal.ofBits .f32 0x3F800000#32) (((totals t (ix1 c)).toInt : ℝ) : EReal) = _
  have hle : ∑ i, (if U i = c then 1 else 0) ≤ 16384 := by
    refine (Finset.sum_le_card_nsmul _ _ 1 fun i _ => ?_).trans (by simp)
    split <;> omega
  rw [totals_at t U ht, toInt_word (by omega), lit_one, max_coe, max_comm]
  refine congrArg (fun r : ℝ => ((max r 1 : ℝ) : EReal)) ?_
  unfold Math.count
  push_cast
  rfl

include hx ht hfirst in
theorem inverse_at (c : Fin 1000) : inverse (F := Ideal) x t (ix1 c) = ((weight Y U eps c : ℝ) : EReal) := by
  show Ideal.div (Ideal.ofBits .f32 0x3F800000#32) (Ideal.div (hits (F := Ideal) x t (ix1 c)) (atLeastOne (F := Ideal) t (ix1 c)) + Ideal.ofBits .f32 0x3727C5AC#32) = _
  rw [hits_at x t Y U hx ht hfirst, atLeastOne_at t U ht, lit_one, lit_eps, div_coe _ _ (by positivity), ← EReal.coe_add,
    div_coe _ _ (denom_pos Y U eps eps_pos c).ne']
  rfl

include hx ht hfirst in
theorem weights_at (c : Fin 1000) : weights (F := Ideal) x t (ix1 c) = ((weight Y U eps c / ∑ c, weight Y U eps c : ℝ) : EReal) := by
  show Ideal.div (inverse (F := Ideal) x t (ix1 c)) (broadcastInDim S1000 ![] bcast_S_S1000 (Host.reduceAdd (F := Ideal) (inverse (F := Ideal) x t) (constant S_ .f32 0x00000000#32) reducesTo_S1000_S_d0 h_S_) (ix1 c)) = _
  rw [ofScalar, host_sum, inverse_at x t Y U hx ht hfirst, sum_of fun c _ => inverse_at x t Y U hx ht hfirst c,
    show constant (F := Ideal) S_ .f32 0x00000000#32 ix0 = ((0 : ℝ) : EReal) from lit_zero, ← EReal.coe_add, zero_add, div_coe _ _ (weights_pos Y U eps eps_pos).ne']

/-! ### The smoothed targets -/

include ht in
theorem oneHot_at (i : Fin 16384) (j : Fin 1000) : oneHot (F := Ideal) t (ix2 i j) = (((if j = U i then keep else 0) : ℝ) : EReal) := by
  refine (scatter_row U (by decide) (pairs t) (by decide) (pairs_zero t) (pairs_one t U ht) _ _ _ ((keep : ℝ) : EReal) (fun _ => lit_keep) i j).trans ?_
  refine Eq.trans ?_ (ite_coe (j = U i) keep 0)
  exact if_congr Iff.rfl rfl lit_zero

include hx ht hfirst in
theorem smoothed_at (i : Fin 16384) (j : Fin 1000) : smoothed (F := Ideal) x t (ix2 i j)
    = (((if j = U i then keep else 0) + smooth * (weight Y U eps j / ∑ c, weight Y U eps c) : ℝ) : EReal) := by
  show oneHot (F := Ideal) t (ix2 i j) + broadcastInDim S16384x1000 ![0, 1] bcast_S1x1000_S16384x1000_0_1 (broadcastInDim S1x1000 ![1] bcast_S1000_S1x1000_1
    (mulf (F := Ideal) (broadcastInDim S1000 ![] bcast_S_S1000 (constant (F := Ideal) S_ .f32 0x38D1B717#32)) (weights (F := Ideal) x t))) (ix2 i j) = _
  rw [oneHot_at t U ht, ofRow, asRow]
  show _ + Ideal.ofBits .f32 0x38D1B717#32 * weights (F := Ideal) x t (ix1 j) = _
  rw [lit_smooth, weights_at x t Y U hx ht hfirst, ← EReal.coe_mul, ← EReal.coe_add]

/-! ### The logarithms of the softmax -/

/-- A row less its maximum. -/
theorem less_max {n m : ℕ} (v : FVec Ideal ⟨2, ![n, m]⟩ .f32) (b₀ : (⟨0, ![]⟩ : Shape).BroadcastsInDim ⟨1, ![n]⟩ ![])
    (b₁ : (⟨1, ![n]⟩ : Shape).BroadcastsInDim ⟨2, ![n, 1]⟩ ![0]) (b₂ : (⟨2, ![n, 1]⟩ : Shape).BroadcastsInDim ⟨2, ![n, m]⟩ ![0, 1])
    (h' : (⟨2, ![n, m]⟩ : Shape).ReducesTo [1] ⟨1, ![n]⟩) (h : (⟨2, ![n, m]⟩ : Shape).Reduces [1] ⟨1, ![n]⟩) (hu : 0 < (⟨0, ![]⟩ : Shape).numel) (i : Fin n) (j : Fin m) :
    subf (F := Ideal) v (broadcastInDim ⟨2, ![n, m]⟩ ![0, 1] b₂ (broadcastInDim ⟨2, ![n, 1]⟩ ![0] b₁
      (maximumf (F := Ideal) (broadcastInDim ⟨1, ![n]⟩ ![] b₀ (constant (F := Ideal) ⟨0, ![]⟩ .f32 0xFF800000#32))
        (Host.reduce FloatOps.maximumf v (constant (F := Ideal) ⟨0, ![]⟩ .f32 0xFF800000#32) h' hu)))) (ix2 i j)
      = (v (ix2 i j) - Finset.univ.sup fun k : Fin m => (v (ix2 i k) : EReal) : EReal) := by
  refine congrArg (fun z : EReal => (v (ix2 i j) - z : EReal)) ((ofCol b₂ _ i j).trans ((asCol b₁ _ i 0).trans ?_))
  have e := host_max_row v h' h hu i
  have e0 : broadcastInDim ⟨1, ![n]⟩ ![] b₀ (constant (F := Ideal) ⟨0, ![]⟩ .f32 0xFF800000#32) (ix1 i) = (⊥ : EReal) := ofBits_bot
  exact (congrArg₂ (max : EReal → EReal → EReal) e0 e).trans (max_eq_right bot_le)

/-- A row less the logarithm of the sum of its exponentials. -/
theorem less_log {n m : ℕ} (v : FVec Ideal ⟨2, ![n, m]⟩ .f32) (z : FVec Ideal ⟨0, ![]⟩ .f32)
    (b₁ : (⟨1, ![n]⟩ : Shape).BroadcastsInDim ⟨2, ![n, 1]⟩ ![0]) (b₂ : (⟨2, ![n, 1]⟩ : Shape).BroadcastsInDim ⟨2, ![n, m]⟩ ![0, 1])
    (h' : (⟨2, ![n, m]⟩ : Shape).ReducesTo [1] ⟨1, ![n]⟩) (h : (⟨2, ![n, m]⟩ : Shape).Reduces [1] ⟨1, ![n]⟩) (hu : 0 < (⟨0, ![]⟩ : Shape).numel) (i : Fin n) (j : Fin m) :
    subf (F := Ideal) v (broadcastInDim ⟨2, ![n, m]⟩ ![0, 1] b₂ (Host.log (F := Ideal) (broadcastInDim ⟨2, ![n, 1]⟩ ![0] b₁
      (Host.reduceAdd (F := Ideal) (Host.exp (F := Ideal) v) z h' hu)))) (ix2 i j)
      = (v (ix2 i j) - Ideal.log (z ix0 + ∑ k : Fin m, Ideal.exp (v (ix2 i k))) : EReal) := by
  refine congrArg (fun w : EReal => (v (ix2 i j) - w : EReal)) ((ofCol b₂ _ i j).trans ?_)
  exact congrArg Ideal.log ((asCol b₁ _ i 0).trans (host_sum_row (Host.exp (F := Ideal) v) z h' h hu i))

/-- The log-sum-exp does not depend on what is taken off the row first. -/
theorem log_shift (y : Fin 1000 → ℝ) (a : ℝ) : Real.log (∑ j, Real.exp (y j - a)) = Real.log (∑ j, Real.exp (y j)) - a := by
  have hpos : 0 < ∑ j, Real.exp (y j) := Finset.sum_pos (fun _ _ => Real.exp_pos _) ⟨0, Finset.mem_univ _⟩
  rw [Finset.sum_congr rfl fun j _ => Real.exp_sub (y j) a, ← Finset.sum_div, Real.log_div hpos.ne' (Real.exp_pos _).ne', Real.log_exp]

include hx in
/-- A row less its maximum, which is one of its logits. -/
theorem shifted_at (i : Fin 16384) : ∃ k : Fin 1000, ∀ j, shifted (F := Ideal) x (ix2 i j) = ((Y i j - Y i k : ℝ) : EReal) := by
  obtain ⟨k, -, hk⟩ := Finset.exists_max_image Finset.univ (Y i) ⟨0, Finset.mem_univ _⟩
  refine ⟨k, fun j => (less_max x _ _ _ _ reduces_rows _ i j).trans ?_⟩
  rw [hx, show (fun k : Fin 1000 => (x (ix2 i k) : EReal)) = fun k => (Y i k : EReal) from funext (hx i),
    ← (eq_sup_iff (Y i) k).mpr fun j => hk j (Finset.mem_univ _), EReal.coe_sub]

include hx in
theorem logProbs_at (i : Fin 16384) (j : Fin 1000) : logProbs (F := Ideal) x (ix2 i j) = ((Y i j - lse Y i : ℝ) : EReal) := by
  obtain ⟨k, hk⟩ := shifted_at x Y hx i
  refine (less_log (shifted (F := Ideal) x) _ _ _ _ reduces_rows _ i j).trans ?_
  have he : ∀ j ∈ Finset.univ, Ideal.exp (shifted (F := Ideal) x (ix2 i j)) = ((Real.exp (Y i j - Y i k) : ℝ) : EReal) := fun j _ => by
    rw [hk, Ideal.exp_coe]
  have hpos : 0 < ∑ j, Real.exp (Y i j - Y i k) := Finset.sum_pos (fun _ _ => Real.exp_pos _) ⟨0, Finset.mem_univ _⟩
  rw [sum_of he, show constant (F := Ideal) S_ .f32 0x00000000#32 ix0 = ((0 : ℝ) : EReal) from lit_zero, ← EReal.coe_add, zero_add,
    log_coe_pos hpos, hk, ← EReal.coe_sub, log_shift]
  exact congrArg (fun r : ℝ => (r : EReal)) (by unfold lse; ring)

/-! ### The loss -/

include hx ht hfirst in
theorem loss_at : loss (F := Ideal) x t ix0 = ((rowByRow Y U keep smooth eps : ℝ) : EReal) := by
  show Ideal.div (Host.reduceAdd (F := Ideal) (Host.reduceAdd (F := Ideal) (mulf (F := Ideal) (Host.negf (F := Ideal) (logProbs (F := Ideal) x)) (smoothed (F := Ideal) x t))
    (constant (F := Ideal) S_ .f32 0x00000000#32) reducesTo_S16384x1000_S16384_d1 h_S_) (constant (F := Ideal) S_ .f32 0x00000000#32) reducesTo_S16384_S_d0 h_S_ ix0)
    (Ideal.ofBits .f32 0x46800000#32) = _
  have hz : constant (F := Ideal) S_ .f32 0x00000000#32 ix0 = ((0 : ℝ) : EReal) := lit_zero
  have hp : ∀ i, ∀ j ∈ Finset.univ, mulf (F := Ideal) (Host.negf (F := Ideal) (logProbs (F := Ideal) x)) (smoothed (F := Ideal) x t) (ix2 i j)
      = ((-(Y i j - lse Y i) * ((if j = U i then keep else 0) + smooth * (weight Y U eps j / ∑ c, weight Y U eps c)) : ℝ) : EReal) := fun i j _ => by
    show -logProbs (F := Ideal) x (ix2 i j) * smoothed (F := Ideal) x t (ix2 i j) = _
    rw [logProbs_at x Y hx, smoothed_at x t Y U hx ht hfirst, ← EReal.coe_neg, ← EReal.coe_mul]
  have hr : ∀ i ∈ Finset.univ, Host.reduceAdd (F := Ideal) (mulf (F := Ideal) (Host.negf (F := Ideal) (logProbs (F := Ideal) x)) (smoothed (F := Ideal) x t))
      (constant (F := Ideal) S_ .f32 0x00000000#32) reducesTo_S16384x1000_S16384_d1 h_S_ (ix1 i)
      = ((∑ j, -(Y i j - lse Y i) * ((if j = U i then keep else 0) + smooth * (weight Y U eps j / ∑ c, weight Y U eps c)) : ℝ) : EReal) := fun i _ => by
    rw [host_sum_row _ _ _ reduces_rows, hz, sum_of (hp i), ← EReal.coe_add, zero_add]
  rw [host_sum, hz, sum_of hr, ← EReal.coe_add, zero_add, lit_rows, div_coe _ _ (by norm_num)]
  rfl

end Cert.ReferenceIdeal.Run

end
-- ==== Proof.Equal.lean ====
/-
  Under the precondition the kernel's result is the reference's loss of the same arguments.
-/
module

public import proofs.«01_k».proof.Proof.KernelValue
public import proofs.«01_k».proof.Proof.ReferenceValue

@[expose] public section

noncomputable section

namespace Cert.Equal

open Idealize.ShloMosaic ValueIdx Cert.KernelIdeal Cert.KernelIdeal.Run Cert.Reals Cert.Math

/-- A word below 1000 is the word of a class. -/
theorem class_of {w : BitVec 32} (h : w.toNat < 1000) : ∃ u : Fin 1000, w = BitVec.ofNat 32 u.val :=
  ⟨⟨w.toNat, h⟩, BitVec.eq_of_toNat_eq (by rw [BitVec.toNat_ofNat, Nat.mod_eq_of_lt w.isLt])⟩

theorem result_eq_loss [Cert.Pre_untied.Facts] (m : (ℓ : Loc nD τ sig) → Buf (Elt Ideal) ℓ) (d : Dev nD)
    (h : Cert.Pre_untied.fn (F := Ideal) (m (xLoc d)) (m (tLoc d)) = fun _ => 1#1) :
    result m d = Cert.ReferenceIdeal.Run.loss (F := Ideal) (m (xLoc d)) (m (tLoc d)) := by
  choose Y hY using fun (i : Fin 16384) (j : Fin 1000) => Cert.Pre.untied_finite _ _ h (ix2 i j)
  choose U hU using fun i : Fin 16384 => class_of (Cert.Pre.untied_range _ _ h (ix1 i))
  have hfirst := Cert.ReferenceIdeal.Run.first_of_untied (m (xLoc d)) (m (tLoc d)) Y U h hY hU
  funext j
  rw [eq_ix0 j]
  refine (result_at m d Y U hY hU ix0).trans ((congrArg (fun r : ℝ => (r : EReal)) ?_).trans
    (Cert.ReferenceIdeal.Run.loss_at (m (xLoc d)) (m (tLoc d)) Y U hY hU hfirst).symm)
  exact fromSums_eq_rowByRow Y U keep smooth eps eps_pos

end Cert.Equal

end
-- ==== Proof.lean ====
/-
  The proof of the claims: the two kernels' runs, the reference's run, the named constant, and the equation of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Pre_untied
public import proofs.«01_k».proof.Proof.Pre
public import proofs.«01_k».proof.Proof.BitsRun
public import proofs.«01_k».proof.Proof.Run
public import proofs.«01_k».proof.Proof.Reference
public import proofs.«01_k».proof.Proof.Equal
public import Idealize.ShloMosaic.Lib.ZeroElt
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts Cert.Pre_untied.Gen.facts

instance (e : EltTy) : Nonempty (Elt Bits e) := ⟨Elt.zeroBits e⟩
instance (e : EltTy) : Nonempty (Elt Ideal e) := by cases e <;> first | exact ⟨(0 : EReal)⟩ | exact ⟨(0 : BitVec _)⟩

theorem frame_kernel : Cert.quiescent_Kernel := fun m g hp =>
  (θ_run _ _ _).mono (fun _ h => ⟨fun c => ⟨(h.1 c).1, (h.1 c).2.1⟩, h.2⟩)
    (Cert.Kernel.Run.run_main m g fun d j => Cert.Pre.in_range_iff _ _ (hp d) j)

theorem frame_ideal : Cert.quiescent_KernelIdeal := fun m g hp =>
  (θ_run _ _ _).mono (fun _ h => ⟨fun c => ⟨(h.1 c).1, (h.1 c).2.1⟩, h.2⟩)
    (Cert.KernelIdeal.Run.run_main m g fun d j => Cert.Pre.in_range_iff _ _ (hp d) j)

theorem frame_ideal_untied : Cert.quiescent_KernelIdeal_pre_untied := fun m g hp =>
  (θ_run _ _ _).mono (fun _ h => ⟨fun c => ⟨(h.1 c).1, (h.1 c).2.1⟩, h.2⟩)
    (Cert.KernelIdeal.Run.run_main m g fun d j => Cert.Pre.untied_range _ _ (hp d) j)

theorem frame_reference : Cert.quiescent_ReferenceIdeal := fun m g _ =>
  (θ_run _ _ _).mono (fun _ h => ⟨fun c => (h c).2, funext fun s => nomatch s⟩) (Cert.ReferenceIdeal.Run.run_main m g)

theorem named_both : Cert.preserves_Kernel_KernelIdeal := IdealRules.named_const.statement _ _ _ _ _ rfl

theorem same_loss : Cert.algebraic_KernelIdeal_ReferenceIdeal_pre_untied := fun m g m' g' hp he =>
  ⟨fun c => Cert.KernelIdeal.Run.result m c,
    (θ_run _ _ _).mono (fun _ h c => ⟨(h.1 c).2.2, (h.1 c).1, (h.1 c).2.1⟩)
      (Cert.KernelIdeal.Run.run_main m g fun d j => Cert.Pre.untied_range _ _ (hp d) j),
    (θ_run _ _ _).mono (fun _ h c => ⟨(h c).1.trans (by rw [(he c).1, (he c).2]; exact (Cert.Equal.result_eq_loss m c (hp c)).symm), (h c).2⟩)
      (Cert.ReferenceIdeal.Run.run_main m' g')⟩

theorem claim : Cert.Claim := ⟨Cert.Kernel.Gen.facts, Cert.KernelIdeal.Gen.facts, Cert.ReferenceIdeal.Gen.facts, Cert.Pre_in_range.Gen.facts, Cert.Pre_untied.Gen.facts,
  frame_kernel, frame_ideal, frame_ideal_untied, frame_reference, fun m g _ => frame_reference m g trivial, named_both, same_loss⟩

end Cert.Proof

end
